-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "qscale" .f32 0x3E38AA3B#32 (((Real.log 256)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v92) = v0 c
          ∧ r.2.mem ((c.tc : Thread Cert.Reference3Ideal.nD Cert.Reference3Ideal.τ).loc Cert.Reference3Ideal.main_v94) = v1 c
          ∧ r.2.mem ((c.tc : Thread Cert.Reference3Ideal.nD Cert.Reference3Ideal.τ).loc Cert.Reference3Ideal.main_v96) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S8x2048x16x64 : Shape := ⟨4, ![8, 2048, 16, 64]⟩
abbrev S8x2048x4x64 : Shape := ⟨4, ![8, 2048, 4, 64]⟩
abbrev S16 : Shape := ⟨1, ![16]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S_ : Shape := ⟨0, ![]⟩

class Facts : Prop where
  bcast_S_S8x2048x16x64 : S_.BroadcastsInDim S8x2048x16x64 (![] : Fin 0 → Fin S8x2048x16x64.rank)
  reducesTo_S8x2048x16x64_S_d0_1_2_3 : S8x2048x16x64.ReducesTo [0, 1, 2, 3] S_
  h_S_ : 0 < S_.numel
  bcast_S_S8x2048x4x64 : S_.BroadcastsInDim S8x2048x4x64 (![] : Fin 0 → Fin S8x2048x4x64.rank)
  reducesTo_S8x2048x4x64_S_d0_1_2_3 : S8x2048x4x64.ReducesTo [0, 1, 2, 3] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8x2048x16x64 .f32) (main_arg1 : FVec F S8x2048x4x64 .f32) (main_arg2 : FVec F S8x2048x4x64 .f32) (main_arg3 : FVec F S16 .f32) (main_arg4 : FVec F S1x1024x1024 .f32) (main_arg5 : FVec F S2x1024x4096 .f32) (main_arg6 : FVec F S2x4096x1024 .f32) : IVec S_ 1 :=
  let main_v0 : FVec F S8x2048x16x64 .f32 := Host.absf main_arg0
  let main_cst : FVec F S_ .f32 := constant S_ .f32 0x7F800000#32
  let main_v1 : FVec F S8x2048x16x64 .f32 := broadcastInDim S8x2048x16x64 ![] bcast_S_S8x2048x16x64 main_cst
  let main_v2 : IVec S8x2048x16x64 1 := cmpf .olt main_v0 main_v1
  let main_c : IVec S_ 1 := constantI S_ 1 1#1
  let main_v3 : IVec S_ 1 := (fun x v => Host.reduce IntOp.andi x v reducesTo_S8x2048x16x64_S_d0_1_2_3 h_S_) main_v2 main_c
  let main_v4 : FVec F S8x2048x4x64 .f32 := Host.absf main_arg1
  let main_cst_0 : FVec F S_ .f32 := constant S_ .f32 0x7F800000#32
  let main_v5 : FVec F S8x2048x4x64 .f32 := broadcastInDim S8x2048x4x64 ![] bcast_S_S8x2048x4x64 main_cst_0
  let main_v6 : IVec S8x2048x4x64 1 := cmpf .olt main_v4 main_v5
  let main_c_1 : IVec S_ 1 := constantI S_ 1 1#1
  let main_v7 : IVec S_ 1 := (fun x v => Host.reduce IntOp.andi x v reducesTo_S8x2048x4x64_S_d0_1_2_3 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S8x2048x16x64 : Shape := ⟨4, ![8, 2048, 16, 64]⟩
abbrev S8x2048x4x64 : Shape := ⟨4, ![8, 2048, 4, 64]⟩
abbrev S16 : Shape := ⟨1, ![16]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S8x2048x1024 : Shape := ⟨3, ![8, 2048, 1024]⟩
abbrev S8x2048x256 : Shape := ⟨3, ![8, 2048, 256]⟩
abbrev S1024x1024 : Shape := ⟨2, ![1024, 1024]⟩
abbrev S1024x4096 : Shape := ⟨2, ![1024, 4096]⟩
abbrev S4096x1024 : Shape := ⟨2, ![4096, 1024]⟩
abbrev S1x2048x1024 : Shape := ⟨3, ![1, 2048, 1024]⟩
abbrev S1x2048x256 : Shape := ⟨3, ![1, 2048, 256]⟩
abbrev S1x128x1024 : Shape := ⟨3, ![1, 128, 1024]⟩
abbrev S1x128x4096 : Shape := ⟨3, ![1, 128, 4096]⟩
abbrev S1x512x1024 : Shape := ⟨3, ![1, 512, 1024]⟩
abbrev S128x1024 : Shape := ⟨2, ![128, 1024]⟩
abbrev S128x4096 : Shape := ⟨2, ![128, 4096]⟩
abbrev S512x1024 : Shape := ⟨2, ![512, 1024]⟩
abbrev S4x2048x256 : Shape := ⟨3, ![4, 2048, 256]⟩
abbrev S1x2048x64 : Shape := ⟨3, ![1, 2048, 64]⟩
abbrev S2048x64 : Shape := ⟨2, ![2048, 64]⟩
abbrev S2048x256 : Shape := ⟨2, ![2048, 256]⟩
abbrev S128x256 : Shape := ⟨2, ![128, 256]⟩
abbrev S512x1 : Shape := ⟨2, ![512, 1]⟩
abbrev S128x384 : Shape := ⟨2, ![128, 384]⟩
abbrev S512x384 : Shape := ⟨2, ![512, 384]⟩
abbrev S1x128x256 : Shape := ⟨3, ![1, 128, 256]⟩
abbrev S512x256 : Shape := ⟨2, ![512, 256]⟩
abbrev S1 : Shape := ⟨1, ![1]⟩
abbrev S1x384x256 : Shape := ⟨3, ![1, 384, 256]⟩
abbrev S384x256 : Shape := ⟨2, ![384, 256]⟩
abbrev S512 : Shape := ⟨1, ![512]⟩

abbrev nBuf : Space → Nat
  | .hbm => 16
  | .vmem => 22
  | .smem => 1
  | _ => 0

abbrev bufTy : (tb : Table) → Fin (tcTables nBuf tb) → BufTy
  | .hbm, ⟨0, _⟩ => ⟨S8x2048x16x64, .f32⟩
  | .hbm, ⟨1, _⟩ => ⟨S8x2048x4x64, .f32⟩
  | .hbm, ⟨2, _⟩ => ⟨S8x2048x4x64, .f32⟩
  | .hbm, ⟨3, _⟩ => ⟨S16, .f32⟩
  | .hbm, ⟨4, _⟩ => ⟨S1x1024x1024, .f32⟩
  | .hbm, ⟨5, _⟩ => ⟨S2x1024x4096, .f32⟩
  | .hbm, ⟨6, _⟩ => ⟨S2x4096x1024, .f32⟩
  | .hbm, ⟨7, _⟩ => ⟨S8x2048x1024, .f32⟩
  | .hbm, ⟨8, _⟩ => ⟨S8x2048x4x64, .bf16⟩
  | .hbm, ⟨9, _⟩ => ⟨S8x2048x256, .bf16⟩
  | .hbm, ⟨10, _⟩ => ⟨S8x2048x4x64, .bf16⟩
  | .hbm, ⟨11, _⟩ => ⟨S8x2048x256, .bf16⟩
  | .hbm, ⟨12, _⟩ => ⟨S8x2048x1024, .bf16⟩
  | .hbm, ⟨13, _⟩ => ⟨S1024x1024, .bf16⟩
  | .hbm, ⟨14, _⟩ => ⟨S1024x4096, .bf16⟩
  | .hbm, ⟨15, _⟩ => ⟨S4096x1024, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x128x1024, .f32⟩
  | .local _ .vmem, ⟨7, _⟩ => ⟨S1x128x1024, .f32⟩
  | .local _ .vmem, ⟨8, _⟩ => ⟨S1x128x4096, .f32⟩
  | .local _ .vmem, ⟨9, _⟩ => ⟨S1x128x4096, .f32⟩
  | .local _ .vmem, ⟨10, _⟩ => ⟨S1x512x1024, .f32⟩
  | .local _ .vmem, ⟨11, _⟩ => ⟨S1x512x1024, .f32⟩
  | .local _ .vmem, ⟨12, _⟩ => ⟨S1x2048x1024, .bf16⟩
  | .local _ .vmem, ⟨13, _⟩ => ⟨S1x2048x1024, .bf16⟩
  | .local _ .vmem, ⟨14, _⟩ => ⟨S128x1024, .bf16⟩
  | .local _ .vmem, ⟨15, _⟩ => ⟨S128x1024, .bf16⟩
  | .local _ .vmem, ⟨16, _⟩ => ⟨S128x4096, .bf16⟩
  | .local _ .vmem, ⟨17, _⟩ => ⟨S128x4096, .bf16⟩
  | .local _ .vmem, ⟨18, _⟩ => ⟨S512x1024, .bf16⟩
  | .local _ .vmem, ⟨19, _⟩ => ⟨S512x1024, .bf16⟩
  | .local _ .vmem, ⟨20, _⟩ => ⟨S4x2048x256, .bf16⟩
  | .local _ .vmem, ⟨21, _⟩ => ⟨S4x2048x256, .bf16⟩
  | .local _ .smem, ⟨0, _⟩ => ⟨S16, .f32⟩
  | _, _ => ⟨S8x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_65 : BitVec 32 := 0#32
  let c16_i32 : BitVec 32 := 16#32
  let v106 : BitVec 32 := Scalar.addi c0_i32_65 c16_i32
  let c1_i32_66 : BitVec 32 := 1#32
  ⟨c0_i32_65, v106, c1_i32_66⟩
def k0_mult1 (k0_t1 : Fin k0_t1_loop.trips) : BitVec 32 :=
  let c0_i32_65 : BitVec 32 := 0#32
  let c1_i32_66 : BitVec 32 := 1#32
  let arg14 : BitVec 32 := Scf.iv c0_i32_65 c1_i32_66 k0_t1
  let c128_i32_68 : BitVec 32 := 128#32
  let v107 : BitVec 32 := Scalar.muli arg14 c128_i32_68
  v107
def k0_mult2 (k0_t1 : Fin k0_t1_loop.trips) : BitVec 32 :=
  let c1664_i32 : BitVec 32 := 1664#32
  let c0_i32_70 : BitVec 32 := 0#32
  let c0_i32_65 : BitVec 32 := 0#32
  let c1_i32_66 : BitVec 32 := 1#32
  let arg14 : BitVec 32 := Scf.iv c0_i32_65 c1_i32_66 k0_t1
  let c128_i32_68 : BitVec 32 := 128#32
  let v107 : BitVec 32 := Scalar.muli arg14 c128_i32_68
  let v108 : BitVec 32 := v107
  let c128_i32_69 : BitVec 32 := 128#32
  let v109 : BitVec 32 := Scalar.subi v108 c128_i32_69
  let v110 : BitVec 32 := Scalar.maxsi c0_i32_70 v109
  let v111 : BitVec 32 := Scalar.minsi c1664_i32 v110
  v111
def k0_off1 (k0_t1 : Fin k0_t1_loop.trips) : Fin 3 → Nat :=
  let c0_73 : Index := 0#32
  let c0_i32_65 : BitVec 32 := 0#32
  let c1_i32_66 : BitVec 32 := 1#32
  let arg14 : BitVec 32 := Scf.iv c0_i32_65 c1_i32_66 k0_t1
  let c128_i32_68 : BitVec 32 := 128#32
  let v107 : BitVec 32 := Scalar.muli arg14 c128_i32_68
  let v108 : BitVec 32 := v107
  let v127 : Index := Scalar.indexCast v108
  let c0_74 : Index := 0#32
  ![0, v127.toNat, 0]
def k0_off2 (k0_t1 : Fin k0_t1_loop.trips) : Fin 3 → Nat :=
  let c0_91 : Index := 0#32
  let c1664_i32 : BitVec 32 := 1664#32
  let c0_i32_70 : BitVec 32 := 0#32
  let c0_i32_65 : BitVec 32 := 0#32
  let c1_i32_66 : BitVec 32 := 1#32
  let arg14 : BitVec 32 := Scf.iv c0_i32_65 c1_i32_66 k0_t1
  let c128_i32_68 : BitVec 32 := 128#32
  let v107 : BitVec 32 := Scalar.muli arg14 c128_i32_68
  let v108 : BitVec 32 := v107
  let c128_i32_69 : BitVec 32 := 128#32
  let v109 : BitVec 32 := Scalar.subi v108 c128_i32_69
  let v110 : BitVec 32 := Scalar.maxsi c0_i32_70 v109
  let v111 : BitVec 32 := Scalar.minsi c1664_i32 v110
  let v112 : BitVec 32 := v111
  let v167 : Index := Scalar.indexCast v112
  let c0_92 : Index := 0#32
  ![0, v167.toNat, 0]
def k0_off3 (k0_t1 : Fin k0_t1_loop.trips) : Fin 3 → Nat :=
  let c0_102 : Index := 0#32
  let c0_i32_65 : BitVec 32 := 0#32
  let c1_i32_66 : BitVec 32 := 1#32
  let arg14 : BitVec 32 := Scf.iv c0_i32_65 c1_i32_66 k0_t1
  let c128_i32_68 : BitVec 32 := 128#32
  let v107 : BitVec 32 := Scalar.muli arg14 c128_i32_68
  let v108 : BitVec 32 := v107
  let v204 : Index := Scalar.indexCast v108
  let c256 : Index := 256#32
  ![0, v204.toNat, 256]
def k0_off4 (k0_t1 : Fin k0_t1_loop.trips) : Fin 3 → Nat :=
  let c1_117 : Index := 1#32
  let c1664_i32 : BitVec 32 := 1664#32
  let c0_i32_70 : BitVec 32 := 0#32
  let c0_i32_65 : BitVec 32 := 0#32
  let c1_i32_66 : BitVec 32 := 1#32
  let arg14 : BitVec 32 := Scf.iv c0_i32_65 c1_i32_66 k0_t1
  let c128_i32_68 : BitVec 32 := 128#32
  let v107 : BitVec 32 := Scalar.muli arg14 c128_i32_68
  let v108 : BitVec 32 := v107
  let c128_i32_69 : BitVec 32 := 128#32
  let v109 : BitVec 32 := Scalar.subi v108 c128_i32_69
  let v110 : BitVec 32 := Scalar.maxsi c0_i32_70 v109
  let v111 : BitVec 32 := Scalar.minsi c1664_i32 v110
  let v112 : BitVec 32 := v111
  let v244 : Index := Scalar.indexCast v112
  let c0_118 : Index := 0#32
  ![1, v244.toNat, 0]
def k0_off5 (k0_t1 : Fin k0_t1_loop.trips) : Fin 3 → Nat :=
  let c0_128 : Index := 0#32
  let c0_i32_65 : BitVec 32 := 0#32
  let c1_i32_66 : BitVec 32 := 1#32
  let arg14 : BitVec 32 := Scf.iv c0_i32_65 c1_i32_66 k0_t1
  let c128_i32_68 : BitVec 32 := 128#32
  let v107 : BitVec 32 := Scalar.muli arg14 c128_i32_68
  let v108 : BitVec 32 := v107
  let v281 : Index := Scalar.indexCast v108
  let c512 : Index := 512#32
  ![0, v281.toNat, 512]
def k0_off6 (k0_t1 : Fin k0_t1_loop.trips) : Fin 3 → Nat :=
  let c2_143 : Index := 2#32
  let c1664_i32 : BitVec 32 := 1664#32
  let c0_i32_70 : BitVec 32 := 0#32
  let c0_i32_65 : BitVec 32 := 0#32
  let c1_i32_66 : BitVec 32 := 1#32
  let arg14 : BitVec 32 := Scf.iv c0_i32_65 c1_i32_66 k0_t1
  let c128_i32_68 : BitVec 32 := 128#32
  let v107 : BitVec 32 := Scalar.muli arg14 c128_i32_68
  let v108 : BitVec 32 := v107
  let c128_i32_69 : BitVec 32 := 128#32
  let v109 : BitVec 32 := Scalar.subi v108 c128_i32_69
  let v110 : BitVec 32 := Scalar.maxsi c0_i32_70 v109
  let v111 : BitVec 32 := Scalar.minsi c1664_i32 v110
  let v112 : BitVec 32 := v111
  let v321 : Index := Scalar.indexCast v112
  let c0_144 : Index := 0#32
  ![2, v321.toNat, 0]
def k0_off7 (k0_t1 : Fin k0_t1_loop.trips) : Fin 3 → Nat :=
  let c0_154 : Index := 0#32
  let c0_i32_65 : BitVec 32 := 0#32
  let c1_i32_66 : BitVec 32 := 1#32
  let arg14 : BitVec 32 := Scf.iv c0_i32_65 c1_i32_66 k0_t1
  let c128_i32_68 : BitVec 32 := 128#32
  let v107 : BitVec 32 := Scalar.muli arg14 c128_i32_68
  let v108 : BitVec 32 := v107
  let v358 : Index := Scalar.indexCast v108
  let c768 : Index := 768#32
  ![0, v358.toNat, 768]
def k0_off8 (k0_t1 : Fin k0_t1_loop.trips) : Fin 3 → Nat :=
  let c3_169 : Index := 3#32
  let c1664_i32 : BitVec 32 := 1664#32
  let c0_i32_70 : BitVec 32 := 0#32
  let c0_i32_65 : BitVec 32 := 0#32
  let c1_i32_66 : BitVec 32 := 1#32
  let arg14 : BitVec 32 := Scf.iv c0_i32_65 c1_i32_66 k0_t1
  let c128_i32_68 : BitVec 32 := 128#32
  let v107 : BitVec 32 := Scalar.muli arg14 c128_i32_68
  let v108 : BitVec 32 := v107
  let c128_i32_69 : BitVec 32 := 128#32
  let v109 : BitVec 32 := Scalar.subi v108 c128_i32_69
  let v110 : BitVec 32 := Scalar.maxsi c0_i32_70 v109
  let v111 : BitVec 32 := Scalar.minsi c1664_i32 v110
  let v112 : BitVec 32 := v111
  let v398 : Index := Scalar.indexCast v112
  let c0_170 : Index := 0#32
  ![3, v398.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.log 256)⁻¹ : ℝ) : EReal)
  | _ => none
-- ==== ReferenceIdeal.lean ====
abbrev S8x2048x16x64 : Shape := ⟨4, ![8, 2048, 16, 64]⟩
abbrev S8x2048x4x64 : Shape := ⟨4, ![8, 2048, 4, 64]⟩
abbrev S16 : Shape := ⟨1, ![16]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S8x16x128x4x4x64 : Shape := ⟨6, ![8, 16, 128, 4, 4, 64]⟩
abbrev S_ : Shape := ⟨0, ![]⟩
abbrev S8x2304x4x64 : Shape := ⟨4, ![8, 2304, 4, 64]⟩
abbrev S8x18x128x4x64 : Shape := ⟨5, ![8, 18, 128, 4, 64]⟩
abbrev S8x16x128x4x64 : Shape := ⟨5, ![8, 16, 128, 4, 64]⟩
abbrev S8x16x384x4x64 : Shape := ⟨5, ![8, 16, 384, 4, 64]⟩
abbrev S8x16x4x384x128x4 : Shape := ⟨6, ![8, 16, 4, 384, 128, 4]⟩
abbrev S8x16x4x4x128x384 : Shape := ⟨6, ![8, 16, 4, 4, 128, 384]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x1x384 : Shape := ⟨3, ![16, 1, 384]⟩
abbrev S16x128x1 : Shape := ⟨3, ![16, 128, 1]⟩
abbrev S16x128x384 : Shape := ⟨3, ![16, 128, 384]⟩
abbrev S1x16x1x1x128x384 : Shape := ⟨6, ![1, 16, 1, 1, 128, 384]⟩
abbrev S1x1x4x4x1x1 : Shape := ⟨6, ![1, 1, 4, 4, 1, 1]⟩
abbrev S8x16x4x4x128x1 : Shape := ⟨6, ![8, 16, 4, 4, 128, 1]⟩
abbrev S8x16x4x4x128x385 : Shape := ⟨6, ![8, 16, 4, 4, 128, 385]⟩
abbrev S8x16x4x4x128 : Shape := ⟨5, ![8, 16, 4, 4, 128]⟩
abbrev S8x16x4x64x4x128 : Shape := ⟨6, ![8, 16, 4, 64, 4, 128]⟩
abbrev S8x2048x1024 : Shape := ⟨3, ![8, 2048, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8x2048x16x64, .f32⟩
  | .hbm, ⟨1, _⟩ => ⟨S8x2048x4x64, .f32⟩
  | .hbm, ⟨2, _⟩ => ⟨S8x2048x4x64, .f32⟩
  | .hbm, ⟨3, _⟩ => ⟨S16, .f32⟩
  | .hbm, ⟨4, _⟩ => ⟨S1x1024x1024, .f32⟩
  | .hbm, ⟨5, _⟩ => ⟨S2x1024x4096, .f32⟩
  | .hbm, ⟨6, _⟩ => ⟨S2x4096x1024, .f32⟩
  | .hbm, ⟨7, _⟩ => ⟨S8x16x128x4x4x64, .f32⟩
  | .hbm, ⟨8, _⟩ => ⟨S_, .i32⟩
  | .hbm, ⟨9, _⟩ => ⟨S_, .f32⟩
  | .hbm, ⟨10, _⟩ => ⟨S8x2304x4x64, .f32⟩
  | .hbm, ⟨11, _⟩ => ⟨S8x18x128x4x64, .f32⟩
  | .hbm, ⟨12, _⟩ => ⟨S8x16x128x4x64, .f32⟩
  | .hbm, ⟨13, _⟩ => ⟨S8x16x128x4x64, .f32⟩
  | .hbm, ⟨14, _⟩ => ⟨S8x16x128x4x64, .f32⟩
  | .hbm, ⟨15, _⟩ => ⟨S8x16x384x4x64, .f32⟩
  | .hbm, ⟨16, _⟩ => ⟨S_, .i32⟩
  | .hbm, ⟨17, _⟩ => ⟨S_, .f32⟩
  | .hbm, ⟨18, _⟩ => ⟨S8x2304x4x64, .f32⟩
  | .hbm, ⟨19, _⟩ => ⟨S8x18x128x4x64, .f32⟩
  | .hbm, ⟨20, _⟩ => ⟨S8x16x128x4x64, .f32⟩
  | .hbm, ⟨21, _⟩ => ⟨S8x16x128x4x64, .f32⟩
  | .hbm, ⟨22, _⟩ => ⟨S8x16x128x4x64, .f32⟩
  | .hbm, ⟨23, _⟩ => ⟨S8x16x384x4x64, .f32⟩
  | .hbm, ⟨24, _⟩ => ⟨S8x16x4x384x128x4, .f32⟩
  | .hbm, ⟨25, _⟩ => ⟨S8x16x4x4x128x384, .f32⟩
  | .hbm, ⟨26, _⟩ => ⟨S_, .f32⟩
  | .hbm, ⟨27, _⟩ => ⟨S8x16x4x4x128x384, .f32⟩
  | .hbm, ⟨28, _⟩ => ⟨S8x16x4x4x128x384, .f32⟩
  | .hbm, ⟨29, _⟩ => ⟨S16, .i32⟩
  | .hbm, ⟨30, _⟩ => ⟨S16x1, .i32⟩
  | .hbm, ⟨31, _⟩ => ⟨S_, .i32⟩
  | .hbm, ⟨32, _⟩ => ⟨S16x1, .i32⟩
  | .hbm, ⟨33, _⟩ => ⟨S16x1, .i32⟩
  | .hbm, ⟨34, _⟩ => ⟨S128, .i32⟩
  | .hbm, ⟨35, _⟩ => ⟨S1x128, .i32⟩
  | .hbm, ⟨36, _⟩ => ⟨S16x128, .i32⟩
  | .hbm, ⟨37, _⟩ => ⟨S16x128, .i32⟩
  | .hbm, ⟨38, _⟩ => ⟨S16x128, .i32⟩
  | .hbm, ⟨39, _⟩ => ⟨S16, .i32⟩
  | .hbm, ⟨40, _⟩ => ⟨S16x1, .i32⟩
  | .hbm, ⟨41, _⟩ => ⟨S_, .i32⟩
  | .hbm, ⟨42, _⟩ => ⟨S16x1, .i32⟩
  | .hbm, ⟨43, _⟩ => ⟨S16x1, .i32⟩
  | .hbm, ⟨44, _⟩ => ⟨S_, .i32⟩
  | .hbm, ⟨45, _⟩ => ⟨S16x1, .i32⟩
  | .hbm, ⟨46, _⟩ => ⟨S16x1, .i32⟩
  | .hbm, ⟨47, _⟩ => ⟨S384, .i32⟩
  | .hbm, ⟨48, _⟩ => ⟨S1x384, .i32⟩
  | .hbm, ⟨49, _⟩ => ⟨S16x384, .i32⟩
  | .hbm, ⟨50, _⟩ => ⟨S16x384, .i32⟩
  | .hbm, ⟨51, _⟩ => ⟨S16x384, .i32⟩
  | .hbm, ⟨52, _⟩ => ⟨S16x1x384, .i32⟩
  | .hbm, ⟨53, _⟩ => ⟨S16x128x1, .i32⟩
  | .hbm, ⟨54, _⟩ => ⟨S16x128x384, .i32⟩
  | .hbm, ⟨55, _⟩ => ⟨S16x128x384, .i32⟩
  | .hbm, ⟨56, _⟩ => ⟨S16x128x384, .i32⟩
  | .hbm, ⟨57, _⟩ => ⟨S16x128x384, .i32⟩
  | .hbm, ⟨58, _⟩ => ⟨S_, .i32⟩
  | .hbm, ⟨59, _⟩ => ⟨S16x128x384, .i32⟩
  | .hbm, ⟨60, _⟩ => ⟨S16x128x384, .i1⟩
  | .hbm, ⟨61, _⟩ => ⟨S16x1x384, .i32⟩
  | .hbm, ⟨62, _⟩ => ⟨S_, .i32⟩
  | .hbm, ⟨63, _⟩ => ⟨S16x1x384, .i32⟩
  | .hbm, ⟨64, _⟩ => ⟨S16x1x384, .i1⟩
  | .hbm, ⟨65, _⟩ => ⟨S16x128x384, .i1⟩
  | .hbm, ⟨66, _⟩ => ⟨S16x128x384, .i1⟩
  | .hbm, ⟨67, _⟩ => ⟨S16x1x384, .i32⟩
  | .hbm, ⟨68, _⟩ => ⟨S_, .i32⟩
  | .hbm, ⟨69, _⟩ => ⟨S16x1x384, .i32⟩
  | .hbm, ⟨70, _⟩ => ⟨S16x1x384, .i1⟩
  | .hbm, ⟨71, _⟩ => ⟨S16x128x384, .i1⟩
  | .hbm, ⟨72, _⟩ => ⟨S16x128x384, .i1⟩
  | .hbm, ⟨73, _⟩ => ⟨S1x16x1x1x128x384, .i1⟩
  | .hbm, ⟨74, _⟩ => ⟨S_, .f32⟩
  | .hbm, ⟨75, _⟩ => ⟨S_, .f32⟩
  | .hbm, ⟨76, _⟩ => ⟨S8x16x4x4x128x384, .i1⟩
  | .hbm, ⟨77, _⟩ => ⟨S8x16x4x4x128x384, .f32⟩
  | .hbm, ⟨78, _⟩ => ⟨S8x16x4x4x128x384, .f32⟩
  | .hbm, ⟨79, _⟩ => ⟨S1x1x4x4x1x1, .f32⟩
  | .hbm, ⟨80, _⟩ => ⟨S8x16x4x4x128x1, .f32⟩
  | .hbm, ⟨81, _⟩ => ⟨S8x16x4x4x128x385, .f32⟩
  | .hbm, ⟨82, _⟩ => ⟨S_, .f32⟩
  | .hbm, ⟨83, _⟩ => ⟨S8x16x4x4x128, .f32⟩
  | .hbm, ⟨84, _⟩ => ⟨S_, .f32⟩
  | .hbm, ⟨85, _⟩ => ⟨S8x16x4x4x128, .f32⟩
  | .hbm, ⟨86, _⟩ => ⟨S8x16x4x4x128, .f32⟩
  | .hbm, ⟨87, _⟩ => ⟨S8x16x4x4x128x1, .f32⟩
  | .hbm, ⟨88, _⟩ => ⟨S8x16x4x4x128x385, .f32⟩
  | .hbm, ⟨89, _⟩ => ⟨S8x16x4x4x128x385, .f32⟩
  | .hbm, ⟨90, _⟩ => ⟨S8x16x4x4x128x385, .f32⟩
  | .hbm, ⟨91, _⟩ => ⟨S_, .f32⟩
  | .hbm, ⟨92, _⟩ => ⟨S8x16x4x4x128, .f32⟩
  | .hbm, ⟨93, _⟩ => ⟨S8x16x4x4x128x1, .f32⟩
  | .hbm, ⟨94, _⟩ => ⟨S8x16x4x4x128x385, .f32⟩
  | .hbm, ⟨95, _⟩ => ⟨S8x16x4x4x128x385, .f32⟩
  | .hbm, ⟨96, _⟩ => ⟨S8x16x4x4x128x384, .f32⟩
  | .hbm, ⟨97, _⟩ => ⟨S8x16x4x64x4x128, .f32⟩
  | .hbm, ⟨98, _⟩ => ⟨S8x16x128x4x4x64, .f32⟩
  | .hbm, ⟨99, _⟩ => ⟨S8x2048x1024, .f32⟩
  | .hbm, ⟨100, _⟩ => ⟨S8x2048x1024, .bf16⟩
  | .hbm, ⟨101, _⟩ => ⟨S1024x1024, .f32⟩
  | .hbm, ⟨102, _⟩ => ⟨S1024x1024, .bf16⟩
  | .hbm, ⟨103, _⟩ => ⟨S1x1024x4096, .f32⟩
  | .hbm, ⟨104, _⟩ => ⟨S1024x4096, .f32⟩
  | .hbm, ⟨105, _⟩ => ⟨S1024x4096, .bf16⟩
  | .hbm, ⟨106, _⟩ => ⟨S1x4096x1024, .f32⟩
  | .hbm, ⟨107, _⟩ => ⟨S4096x1024, .f32⟩
  | .hbm, ⟨108, _⟩ => ⟨S4096x1024, .bf16⟩
  | _, _ => ⟨S8x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_6 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_10 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 18
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S8x2048x1024, .bf16⟩
  | .hbm, ⟨9, _⟩ => ⟨S16384x1024, .bf16⟩
  | .hbm, ⟨10, _⟩ => ⟨S1024x1024, .bf16⟩
  | .hbm, ⟨11, _⟩ => ⟨S16384x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x2048x1024 : Shape := ⟨3, ![8, 2048, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S8x2048x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S8x2048x4096, .f32⟩
  | .hbm, ⟨43, _⟩ => ⟨S_, .f32⟩
  | .hbm, ⟨44, _⟩ => ⟨S8x2048x4096, .f32⟩
  | .hbm, ⟨45, _⟩ => ⟨S8x2048x4096, .f32⟩
  | .hbm, ⟨46, _⟩ => ⟨S8x2048x4096, .f32⟩
  | .hbm, ⟨47, _⟩ => ⟨S8x2048x1024, .f32⟩
  | .hbm, ⟨48, _⟩ => ⟨S8x2048x1024, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x1, .f32⟩
  | .hbm, ⟨59, _⟩ => ⟨S8x2048x1024, .f32⟩
  | .hbm, ⟨60, _⟩ => ⟨S8x2048x1024, .f32⟩
  | .hbm, ⟨61, _⟩ => ⟨S1x1x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x1536 : Shape := ⟨2, ![1024, 1536]⟩
abbrev S16384x1024 : Shape := ⟨2, ![16384, 1024]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x56 : Shape := ⟨2, ![2048, 56]⟩
abbrev S2048x128 : Shape := ⟨2, ![2048, 128]⟩
abbrev S1x1024 : Shape := ⟨2, ![1, 1024]⟩
abbrev S16384x256 : Shape := ⟨2, ![16384, 256]⟩
abbrev S1024x1024 : Shape := ⟨2, ![1024, 1024]⟩
abbrev S1024x128 : Shape := ⟨2, ![1024, 128]⟩
abbrev S1024x256 : Shape := ⟨2, ![1024, 256]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S512x256 : Shape := ⟨2, ![512, 256]⟩

abbrev nBuf : Space → Nat
  | .hbm => 43
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1536, .f32⟩
  | .hbm, ⟨3, _⟩ => ⟨S16384x1024, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S2048, .i32⟩
  | .hbm, ⟨19, _⟩ => ⟨S2048, .f32⟩
  | .hbm, ⟨20, _⟩ => ⟨S2048x1, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S_, .f32⟩
  | .hbm, ⟨28, _⟩ => ⟨S2048x48, .f32⟩
  | .hbm, ⟨29, _⟩ => ⟨S2048x8, .f32⟩
  | .hbm, ⟨30, _⟩ => ⟨S_, .f32⟩
  | .hbm, ⟨31, _⟩ => ⟨S2048x56, .f32⟩
  | .hbm, ⟨32, _⟩ => ⟨S_, .f32⟩
  | .hbm, ⟨33, _⟩ => ⟨S2048x8, .f32⟩
  | .hbm, ⟨34, _⟩ => ⟨S_, .f32⟩
  | .hbm, ⟨35, _⟩ => ⟨S2048x48, .f32⟩
  | .hbm, ⟨36, _⟩ => ⟨S2048x128, .f32⟩
  | .hbm, ⟨37, _⟩ => ⟨S2048x128, .f32⟩
  | .hbm, ⟨38, _⟩ => ⟨S2048x128, .f32⟩
  | .hbm, ⟨39, _⟩ => ⟨S1x1024, .f32⟩
  | .hbm, ⟨40, _⟩ => ⟨S16384x1024, .f32⟩
  | .hbm, ⟨41, _⟩ => ⟨S16384x256, .bf16⟩
  | .hbm, ⟨42, _⟩ => ⟨S16384x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .f32⟩
  | .local _ .vmem, ⟨11, _⟩ => ⟨S1024x1024, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x1536, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v29_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x2048x1024 : Shape := ⟨3, ![8, 2048, 1024]⟩
abbrev S1024 : Shape := ⟨1, ![1024]⟩
abbrev S1024x1536 : Shape := ⟨2, ![1024, 1536]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1536 : Shape := ⟨3, ![8, 2048, 1536]⟩
abbrev S8x2048x256 : Shape := ⟨3, ![8, 2048, 256]⟩
abbrev S2048 : Shape := ⟨1, ![2048]⟩
abbrev S8x2048x16x64 : Shape := ⟨4, ![8, 2048, 16, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x16x16 : Shape := ⟨4, ![8, 2048, 16, 16]⟩
abbrev S8x2048x16x8 : Shape := ⟨4, ![8, 2048, 16, 8]⟩
abbrev S8x2048x16x48 : Shape := ⟨4, ![8, 2048, 16, 48]⟩
abbrev S8x2048x4x64 : Shape := ⟨4, ![8, 2048, 4, 64]⟩
abbrev S8x2048x4x16 : Shape := ⟨4, ![8, 2048, 4, 16]⟩
abbrev S8x2048x4x8 : Shape := ⟨4, ![8, 2048, 4, 8]⟩
abbrev S8x2048x4x48 : Shape := ⟨4, ![8, 2048, 4, 48]⟩
abbrev S16384x1024 : Shape := ⟨2, ![16384, 1024]⟩
abbrev S16384x256 : Shape := ⟨2, ![16384, 256]⟩

abbrev nBuf : Space → Nat
  | .hbm => 111
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1536, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x1536, .f32⟩
  | .hbm, ⟨20, _⟩ => ⟨S8x2048x1024, .f32⟩
  | .hbm, ⟨21, _⟩ => ⟨S8x2048x256, .f32⟩
  | .hbm, ⟨22, _⟩ => ⟨S8x2048x256, .f32⟩
  | .hbm, ⟨23, _⟩ => ⟨S2048, .i32⟩
  | .hbm, ⟨24, _⟩ => ⟨S8x2048x16x64, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S2048, .f32⟩
  | .hbm, ⟨40, _⟩ => ⟨S2048x1, .f32⟩
  | .hbm, ⟨41, _⟩ => ⟨S1x8, .f32⟩
  | .hbm, ⟨42, _⟩ => ⟨S2048x8, .f32⟩
  | .hbm, ⟨43, _⟩ => ⟨S2048x8, .f32⟩
  | .hbm, ⟨44, _⟩ => ⟨S2048x8, .f32⟩
  | .hbm, ⟨45, _⟩ => ⟨S2048x8, .f32⟩
  | .hbm, ⟨46, _⟩ => ⟨S1x2048x1x8, .f32⟩
  | .hbm, ⟨47, _⟩ => ⟨S2048x8, .f32⟩
  | .hbm, ⟨48, _⟩ => ⟨S1x2048x1x8, .f32⟩
  | .hbm, ⟨49, _⟩ => ⟨S8x2048x16x16, .f32⟩
  | .hbm, ⟨50, _⟩ => ⟨S8x2048x16x8, .f32⟩
  | .hbm, ⟨51, _⟩ => ⟨S8x2048x16x8, .f32⟩
  | .hbm, ⟨52, _⟩ => ⟨S8x2048x16x8, .f32⟩
  | .hbm, ⟨53, _⟩ => ⟨S8x2048x16x8, .f32⟩
  | .hbm, ⟨54, _⟩ => ⟨S8x2048x16x8, .f32⟩
  | .hbm, ⟨55, _⟩ => ⟨S8x2048x16x8, .f32⟩
  | .hbm, ⟨56, _⟩ => ⟨S8x2048x16x8, .f32⟩
  | .hbm, ⟨57, _⟩ => ⟨S8x2048x16x8, .f32⟩
  | .hbm, ⟨58, _⟩ => ⟨S8x2048x16x8, .f32⟩
  | .hbm, ⟨59, _⟩ => ⟨S8x2048x16x8, .f32⟩
  | .hbm, ⟨60, _⟩ => ⟨S8x2048x16x8, .f32⟩
  | .hbm, ⟨61, _⟩ => ⟨S8x2048x16x8, .f32⟩
  | .hbm, ⟨62, _⟩ => ⟨S8x2048x16x16, .f32⟩
  | .hbm, ⟨63, _⟩ => ⟨S8x2048x16x48, .f32⟩
  | .hbm, ⟨64, _⟩ => ⟨S8x2048x16x64, .f32⟩
  | .hbm, ⟨65, _⟩ => ⟨S8x2048x4x64, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S_, .f32⟩
  | .hbm, ⟨78, _⟩ => ⟨S8, .f32⟩
  | .hbm, ⟨79, _⟩ => ⟨S8, .f32⟩
  | .hbm, ⟨80, _⟩ => ⟨S2048, .f32⟩
  | .hbm, ⟨81, _⟩ => ⟨S2048x1, .f32⟩
  | .hbm, ⟨82, _⟩ => ⟨S1x8, .f32⟩
  | .hbm, ⟨83, _⟩ => ⟨S2048x8, .f32⟩
  | .hbm, ⟨84, _⟩ => ⟨S2048x8, .f32⟩
  | .hbm, ⟨85, _⟩ => ⟨S2048x8, .f32⟩
  | .hbm, ⟨86, _⟩ => ⟨S2048x8, .f32⟩
  | .hbm, ⟨87, _⟩ => ⟨S1x2048x1x8, .f32⟩
  | .hbm, ⟨88, _⟩ => ⟨S2048x8, .f32⟩
  | .hbm, ⟨89, _⟩ => ⟨S1x2048x1x8, .f32⟩
  | .hbm, ⟨90, _⟩ => ⟨S8x2048x4x16, .f32⟩
  | .hbm, ⟨91, _⟩ => ⟨S8x2048x4x8, .f32⟩
  | .hbm, ⟨92, _⟩ => ⟨S8x2048x4x8, .f32⟩
  | .hbm, ⟨93, _⟩ => ⟨S8x2048x4x8, .f32⟩
  | .hbm, ⟨94, _⟩ => ⟨S8x2048x4x8, .f32⟩
  | .hbm, ⟨95, _⟩ => ⟨S8x2048x4x8, .f32⟩
  | .hbm, ⟨96, _⟩ => ⟨S8x2048x4x8, .f32⟩
  | .hbm, ⟨97, _⟩ => ⟨S8x2048x4x8, .f32⟩
  | .hbm, ⟨98, _⟩ => ⟨S8x2048x4x8, .f32⟩
  | .hbm, ⟨99, _⟩ => ⟨S8x2048x4x8, .f32⟩
  | .hbm, ⟨100, _⟩ => ⟨S8x2048x4x8, .f32⟩
  | .hbm, ⟨101, _⟩ => ⟨S8x2048x4x8, .f32⟩
  | .hbm, ⟨102, _⟩ => ⟨S8x2048x4x8, .f32⟩
  | .hbm, ⟨103, _⟩ => ⟨S8x2048x4x16, .f32⟩
  | .hbm, ⟨104, _⟩ => ⟨S8x2048x4x48, .f32⟩
  | .hbm, ⟨105, _⟩ => ⟨S8x2048x4x64, .f32⟩
  | .hbm, ⟨106, _⟩ => ⟨S16384x1024, .f32⟩
  | .hbm, ⟨107, _⟩ => ⟨S8x2048x4x64, .bf16⟩
  | .hbm, ⟨108, _⟩ => ⟨S16384x256, .bf16⟩
  | .hbm, ⟨109, _⟩ => ⟨S8x2048x256, .bf16⟩
  | .hbm, ⟨110, _⟩ => ⟨S16384x256, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_8 : Ref sig .tc := ⟨.hbm, 74, rfl⟩
abbrev main_v62 : Ref sig .tc := ⟨.hbm, 75, rfl⟩
abbrev main_v63 : Ref sig .tc := ⟨.hbm, 76, rfl⟩
abbrev main_cst_9 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩

abbrev nD : Nat := 1
abbrev τ : Topo := Topo.v7x

variable {F : FTy → Type} [FloatOps F]
-- ==== Proof.Tail.Spec.lean ====
module

public import Idealize.ShloMosaic.Lib.Pointwise

/-! # The rest of a layer after its mixer, one token at a time

The functions below say over the extended reals what the tail of a layer computes for one token:
the mixer's output projected, normalised and added to the residual, then the squared-ReLU network
between two norms, added again. `e` is the number that the norms add under the root. -/

@[expose] public section

noncomputable section

namespace Cert.Tail

open Idealize.ShloMosaic

/-- A row normalised by the root of its mean square and multiplied by a gain, at position `j`. -/
def rms (e : EReal) (x g : Fin 1024 → EReal) (j : Fin 1024) : EReal :=
  x j * Ideal.rsqrt (Ideal.div (∑ k, x k * x k) (Ideal.ofBits FTy.f32 1149239296#32) + e) * g j

/-- The residual plus the normalised projection of the mixer's output. -/
def mid (e : EReal) (a : Fin 1024 → EReal) (wo : Fin 1024 → Fin 1024 → EReal) (h g : Fin 1024 → EReal)
    (j : Fin 1024) : EReal :=
  h j + rms e (fun j => ∑ k, a k * wo k j) g j

/-- The hidden activation at `f`: the square of the positive part of a column's product with the row. -/
def act {n : ℕ} (x : Fin 1024 → EReal) (wu : Fin 1024 → Fin n → EReal) (f : Fin n) : EReal :=
  max (∑ k, x k * wu k f) 0 * max (∑ k, x k * wu k f) 0

/-- The network's output before its norm. -/
def ff (x : Fin 1024 → EReal) (wu : Fin 1024 → Fin 4096 → EReal) (wd : Fin 4096 → Fin 1024 → EReal)
    (j : Fin 1024) : EReal :=
  ∑ f, act x wu f * wd f j

/-- The tail of a layer for one token. -/
def tail (e : EReal) (a : Fin 1024 → EReal) (wo : Fin 1024 → Fin 1024 → EReal) (h gm gp gq : Fin 1024 → EReal)
    (wu : Fin 1024 → Fin 4096 → EReal) (wd : Fin 4096 → Fin 1024 → EReal) (j : Fin 1024) : EReal :=
  mid e a wo h gm j + rms e (ff (rms e (mid e a wo h gm) gp) wu wd) gq j

/-- The share of the hidden positions from `n` on, 1024 of them, in the network's output. -/
def part (n : ℕ) (hn : n + 1024 ≤ 4096) (x : Fin 1024 → EReal) (wu : Fin 1024 → Fin 4096 → EReal)
    (wd : Fin 4096 → Fin 1024 → EReal) (j : Fin 1024) : EReal :=
  ∑ f : Fin 1024, act x wu ⟨n + f, by omega⟩ * wd ⟨n + f, by omega⟩ j

/-- The sum over the hidden positions, cut into its four quarters. -/
theorem ff_parts (x : Fin 1024 → EReal) (wu : Fin 1024 → Fin 4096 → EReal) (wd : Fin 4096 → Fin 1024 → EReal)
    (j : Fin 1024) :
    part 0 (by omega) x wu wd j + part 1024 (by omega) x wu wd j + part 2048 (by omega) x wu wd j
      + part 3072 (by omega) x wu wd j = ff x wu wd j := by
  have cut : ∀ F : Fin 4096 → EReal, ∑ f, F f
      = (∑ f : Fin 1024, F ⟨0 + f, by omega⟩) + (∑ f : Fin 1024, F ⟨1024 + f, by omega⟩)
        + (∑ f : Fin 1024, F ⟨2048 + f, by omega⟩) + ∑ f : Fin 1024, F ⟨3072 + f, by omega⟩ := by
    intro F
    rw [Fin.sum_univ_add (a := 3072) (b := 1024) F, Fin.sum_univ_add (a := 2048) (b := 1024),
      Fin.sum_univ_add (a := 1024) (b := 1024)]
    refine congrArg₂ (· + ·) (congrArg₂ (· + ·) (congrArg₂ (· + ·) ?_ ?_) ?_) ?_ <;>
      refine Finset.sum_congr rfl fun f _ => congrArg F (Fin.ext ?_) <;> simp [Nat.add_comm]
  rw [ff, cut]; rfl

end Cert.Tail

end
-- ==== Proof.Tail.Body.lean ====
module

public import proofs.«01_k».proof.Proof.Gen.Kernel2Ideal.Value
public import proofs.«01_k».proof.Proof.Tail.Spec
public import Idealize.ShloMosaic.Lib.Pipeline.ValueKit

/-! # What the kernel's body stores, one row at a time -/

@[expose] public section

set_option maxRecDepth 16384

noncomputable section

namespace Cert.Tail

open Cert.Kernel2Ideal Cert.Kernel2Ideal.Gen Idealize.ShloMosaic

/-- The number that the kernel's norms add under the root. -/
abbrev eK : EReal := Ideal.ofBits FTy.f32 897988541#32

/-- A row of a table. -/
def row {a b : ℕ} (v : (⟨2, ![a, b]⟩ : Shape).Idx → EReal) (r : Fin a) : Fin b → EReal := fun k => v (ix2 r k)

theorem pay1_at (v5 : Vec Ideal S256x1024 .bf16) (v7 : Vec Ideal S1024x1024 .bf16) (r : Fin 256) (j : Fin 1024) :
    k0_pay1 v5 v7 (ix2 r j) = ∑ k, row v5 r k * row v7 k j := by
  pointwise [k0_pay1]; rfl

theorem pay2_at (v0 : Vec Ideal S256x1024 .bf16) (v2 : Vec Ideal S1024x1024 .bf16) (v10 : Vec Ideal S256x1024 .f32)
    (v12 : Vec Ideal S1x1024 .f32) (r : Fin 256) (j : Fin 1024) :
    k0_pay2 v0 v2 v10 v12 (ix2 r j) = mid eK (row v0 r) (row v2) (row v10 r) (row v12 0) j := by
  pointwise [k0_pay2]; rfl

theorem pay6_at (v5 : Vec Ideal S256x1024 .bf16) (v7 : Vec Ideal S1024x1024 .bf16) (v27 : Vec Ideal S256x1024 .f32)
    (v29 : Vec Ideal S1x1024 .f32) (r : Fin 256) (j : Fin 1024) :
    k0_pay6 (k0_pay1 v5 v7) (k0_pay3 v27) (k0_pay4 v29) (k0_pay5 v5 v7) (ix2 r j)
      = mid eK (row v5 r) (row v7) (row v27 r) (row v29 0) j := by
  pointwise [k0_pay6, k0_pay5, k0_pay4, k0_pay3, k0_pay1]; rfl

theorem pay7_at (v26 : FVec Ideal S256x1024 .f32) (v44 : Vec Ideal S1x1024 .f32) (r : Fin 256) (j : Fin 1024) :
    k0_pay7 v26 v44 (ix2 r j) = rms eK (row v26 r) (row v44 0) j := by
  pointwise [k0_pay7]; rfl

theorem pay8_at (v9 v28 : FVec Ideal S256x1024 .f32) (v30 : FVec Ideal S1x1024 .f32) (v35 : FVec Ideal S256x1 .f32)
    (v59 : Vec Ideal S1x1024 .f32) (r : Fin 256) (j : Fin 1024) :
    k0_pay8 v9 v28 v30 v35 v59 (ix2 r j) = rms eK (row (k0_pay6 v9 v28 v30 v35) r) (row v59 0) j := by
  unfold k0_pay8; generalize k0_pay6 v9 v28 v30 v35 = h
  pointwise; rfl

theorem pay2_row (v0 : Vec Ideal S256x1024 .bf16) (v2 : Vec Ideal S1024x1024 .bf16) (v10 : Vec Ideal S256x1024 .f32)
    (v12 : Vec Ideal S1x1024 .f32) (r : Fin 256) :
    row (k0_pay2 v0 v2 v10 v12) r = mid eK (row v0 r) (row v2) (row v10 r) (row v12 0) :=
  funext fun j => pay2_at v0 v2 v10 v12 r j

theorem pay6_row (v5 : Vec Ideal S256x1024 .bf16) (v7 : Vec Ideal S1024x1024 .bf16) (v27 : Vec Ideal S256x1024 .f32)
    (v29 : Vec Ideal S1x1024 .f32) (r : Fin 256) :
    row (k0_pay6 (k0_pay1 v5 v7) (k0_pay3 v27) (k0_pay4 v29) (k0_pay5 v5 v7)) r
      = mid eK (row v5 r) (row v7) (row v27 r) (row v29 0) :=
  funext fun j => pay6_at v5 v7 v27 v29 r j

theorem pay7_row (v26 : FVec Ideal S256x1024 .f32) (v44 : Vec Ideal S1x1024 .f32) (r : Fin 256) :
    row (k0_pay7 v26 v44) r = rms eK (row v26 r) (row v44 0) :=
  funext fun j => pay7_at v26 v44 r j

theorem pay8_row (v9 v28 : FVec Ideal S256x1024 .f32) (v30 : FVec Ideal S1x1024 .f32) (v35 : FVec Ideal S256x1 .f32)
    (v59 : Vec Ideal S1x1024 .f32) (r : Fin 256) :
    row (k0_pay8 v9 v28 v30 v35 v59) r = rms eK (row (k0_pay6 v9 v28 v30 v35) r) (row v59 0) :=
  funext fun j => pay8_at v9 v28 v30 v35 v59 r j

/-- What one quarter of the hidden positions adds. -/
def quarter (x : FVec Ideal S256x1024 .bf16) (wu wd : Vec Ideal S1024x1024 .bf16) (r : Fin 256) (j : Fin 1024) : EReal :=
  ∑ f, act (row x r) (row wu) f * row wd f j

/-- A slab's result from its residual row, its normalised rows and the four quarters of the two weights. -/
theorem slab0_at (v26 : FVec Ideal S256x1024 .f32) (v44 : Vec Ideal S1x1024 .f32)
    (u0 d0 u1 d1 u2 d2 u3 d3 : Vec Ideal S1024x1024 .bf16) (g : Vec Ideal S1x1024 .f32) (r : Fin 256) (j : Fin 1024) :
    k0_pay16 v26 (k0_pay12 (k0_pay7 v26 v44) (k0_pay10 (k0_pay7 v26 v44) (k0_pay9 v26 v44 u0) d0 u1 d1) u2 d2)
        (k0_pay14 (k0_pay7 v26 v44) u3) d3 g (ix2 r j)
      = v26 (ix2 r j) + rms eK (fun j => quarter (k0_pay7 v26 v44) u0 d0 r j + quarter (k0_pay7 v26 v44) u1 d1 r j
          + quarter (k0_pay7 v26 v44) u2 d2 r j + quarter (k0_pay7 v26 v44) u3 d3 r j) (row g 0) j := by
  unfold k0_pay9; generalize k0_pay7 v26 v44 = x
  pointwise [k0_pay16, k0_pay14, k0_pay12, k0_pay10]; rfl

theorem slab1_at (v43 : FVec Ideal S256x1024 .f32) (x : FVec Ideal S256x1024 .bf16)
    (u0 d0 u1 d1 u2 d2 u3 d3 : Vec Ideal S1024x1024 .bf16) (g : Vec Ideal S1x1024 .f32) (r : Fin 256) (j : Fin 1024) :
    k0_pay17 v43 (k0_pay13 x (k0_pay11 x u0 d0 u1 d1) u2 d2) (k0_pay15 x u3) d3 g (ix2 r j)
      = v43 (ix2 r j) + rms eK (fun j => quarter x u0 d0 r j + quarter x u1 d1 r j
          + quarter x u2 d2 r j + quarter x u3 d3 r j) (row g 0) j := by
  pointwise [k0_pay17, k0_pay15, k0_pay13, k0_pay11]; rfl

/-! ## The blocks that the body loads -/

theorem ld0 (x : Vec Ideal S512x1024 .bf16) (r : Fin 256) :
    row (View.ld x r0_0) r = row x ⟨r, by omega⟩ := by
  funext k; unfold row; pointwise
theorem ld2 (x : Vec Ideal S512x1024 .bf16) (r : Fin 256) :
    row (View.ld x r0_2) r = row x ⟨256 + r, by omega⟩ := by
  funext k; unfold row; pointwise
theorem ld0' (x : Vec Ideal S512x1024 .f32) (r : Fin 256) :
    row (View.ld x r0_0) r = row x ⟨r, by omega⟩ := by
  funext k; unfold row; pointwise
theorem ld2' (x : Vec Ideal S512x1024 .f32) (r : Fin 256) :
    row (View.ld x r0_2) r = row x ⟨256 + r, by omega⟩ := by
  funext k; unfold row; pointwise
theorem ld1 (x : Vec Ideal S1024x1024 .bf16) (r : Fin 1024) :
    row (View.ld x r0_1) r = row x r := by
  funext k; unfold row; pointwise
theorem ld1_row (x : Vec Ideal S1024x1024 .bf16) : row (View.ld x r0_1) = row x := funext fun r => ld1 x r

theorem ld3 (x : Vec Ideal S1x1024 .f32) :
    row (a := 1) (View.ld x r0_3) 0 = row x 0 := by
  funext k; unfold row; pointwise
theorem ld4 (x : Vec Ideal S1024x4096 .bf16) (r : Fin 1024) :
    row (View.ld x r0_4) r = fun k : Fin 1024 => row x r ⟨0 + k, by omega⟩ := by
  funext k; unfold row; pointwise
theorem ld6 (x : Vec Ideal S1024x4096 .bf16) (r : Fin 1024) :
    row (View.ld x r0_6) r = fun k : Fin 1024 => row x r ⟨1024 + k, by omega⟩ := by
  funext k; unfold row; pointwise
theorem ld8 (x : Vec Ideal S1024x4096 .bf16) (r : Fin 1024) :
    row (View.ld x r0_8) r = fun k : Fin 1024 => row x r ⟨2048 + k, by omega⟩ := by
  funext k; unfold row; pointwise
theorem ld10 (x : Vec Ideal S1024x4096 .bf16) (r : Fin 1024) :
    row (View.ld x r0_10) r = fun k : Fin 1024 => row x r ⟨3072 + k, by omega⟩ := by
  funext k; unfold row; pointwise
theorem ld5 (x : Vec Ideal S4096x1024 .bf16) (r : Fin 1024) :
    row (View.ld x r0_5) r = row x ⟨0 + r, by omega⟩ := by
  funext k; unfold row; pointwise
theorem ld7 (x : Vec Ideal S4096x1024 .bf16) (r : Fin 1024) :
    row (View.ld x r0_7) r = row x ⟨1024 + r, by omega⟩ := by
  funext k; unfold row; pointwise
theorem ld9 (x : Vec Ideal S4096x1024 .bf16) (r : Fin 1024) :
    row (View.ld x r0_9) r = row x ⟨2048 + r, by omega⟩ := by
  funext k; unfold row; pointwise
theorem ld11 (x : Vec Ideal S4096x1024 .bf16) (r : Fin 1024) :
    row (View.ld x r0_11) r = row x ⟨3072 + r, by omega⟩ := by
  funext k; unfold row; pointwise

/-- The four quarters, read from the whole weights, are the network's output. -/
theorem quarters (x : FVec Ideal S256x1024 .bf16) (wu : Vec Ideal S1024x4096 .bf16) (wd : Vec Ideal S4096x1024 .bf16)
    (r : Fin 256) (j : Fin 1024) :
    quarter x (View.ld wu r0_4) (View.ld wd r0_5) r j + quarter x (View.ld wu r0_6) (View.ld wd r0_7) r j
      + quarter x (View.ld wu r0_8) (View.ld wd r0_9) r j + quarter x (View.ld wu r0_10) (View.ld wd r0_11) r j
      = ff (row x r) (row wu) (row wd) j := by
  rw [← ff_parts]
  simp only [quarter, act, part, ld4, ld5, ld6, ld7, ld8, ld9, ld10, ld11]

/-- The body's output block at a row and a position. -/
theorem out_at (x0 : Vec Ideal S512x1024 .bf16) (x1 : Vec Ideal S1024x1024 .bf16) (x2 : Vec Ideal S512x1024 .f32)
    (x3 x4 x5 : Vec Ideal S1x1024 .f32) (x6 : Vec Ideal S1024x4096 .bf16) (x7 : Vec Ideal S4096x1024 .bf16) (y : S512x1024.Idx) :
    out0_8 x0 x1 x2 x3 x4 x5 x6 x7 y
      = tail eK (row x0 (y 0)) (row x1) (row x2 (y 0)) (row x3 0) (row x4 0) (row x5 0) (row x6) (row x7) (y 1) := by
  unfold out0_8
  refine View.canon_apply_of_pieces (Val := Elt Ideal) (e := .f32) (fun y => (tail eK (row x0 (y 0)) (row x1) (row x2 (y 0)) (row x3 0) (row x4 0) (row x5 0) (row x6) (row x7) (y 1) : EReal))
    _ ?_ y (cover0_8 _ _ y)
  intro p hp x
  rcases List.mem_cons.1 hp with rfl | hp
  · change S256x1024.Idx at x
    obtain ⟨r, j, rfl⟩ : ∃ (r : Fin 256) (j : Fin 1024), x = ix2 r j := ⟨x 0, x 1, eq_ix2 x⟩
    have e0 : (Rect.emb r0_2 (ix2 r j)) 0 = (⟨256 + r, by omega⟩ : Fin 512) := Fin.ext (Rect.idx_unit_val _ _ _ _ 0)
    have e1 : (Rect.emb r0_2 (ix2 r j)) 1 = j := Fin.ext ((Rect.idx_unit_val _ _ _ _ 1).trans (Nat.zero_add _))
    dsimp only
    rw [e0, e1, slab1_at]
    simp only [quarters, tail]
    unfold k0_pay24 k0_pay22 k0_pay21 k0_pay20 k0_pay18
    rw [pay6_at, pay8_row, pay6_row]
    simp only [ld1_row, ld2, ld2', ld3]
    try rfl
  · obtain rfl := List.mem_singleton.1 hp
    change S256x1024.Idx at x
    obtain ⟨r, j, rfl⟩ : ∃ (r : Fin 256) (j : Fin 1024), x = ix2 r j := ⟨x 0, x 1, eq_ix2 x⟩
    have e0 : (Rect.emb r0_0 (ix2 r j)) 0 = (⟨r, by omega⟩ : Fin 512) := Fin.ext ((Rect.idx_unit_val _ _ _ _ 0).trans (Nat.zero_add _))
    have e1 : (Rect.emb r0_0 (ix2 r j)) 1 = j := Fin.ext ((Rect.idx_unit_val _ _ _ _ 1).trans (Nat.zero_add _))
    dsimp only
    unfold k0_pay23
    rw [e0, e1, slab0_at]
    simp only [quarters, tail]
    unfold k0_pay19
    rw [pay2_at, pay7_row, pay2_row]
    simp only [ld1_row, ld0, ld0', ld3]
    try rfl

end Cert.Tail

end
-- ==== Proof.Tail.Ref.lean ====
module

public import proofs.«01_k».proof.Proof.Gen.Reference2Ideal.Read
public import proofs.«01_k».proof.Proof.Tail.Spec
public import Idealize.ShloMosaic.Lib.Pointwise

/-! # The plain tail of a layer at an index -/

@[expose] public section

noncomputable section

namespace Cert.Tail

open Idealize.ShloMosaic Cert.Reference2Ideal Cert.Reference2Ideal.Read

/-- The plain program's small number under the root. -/
abbrev eR : EReal := Ideal.ofBits FTy.f32 897988541#32

/-- One token of a batched array. -/
def tok {a b c : ℕ} (x : (⟨⟨3, ![a, b, c]⟩, .f32⟩ : BufTy).Contents (Elt Ideal)) (i : Fin a) (s : Fin b) (k : Fin c) : EReal :=
  x (ix3 i s k)

/-- The rows of a matrix. -/
def mat {a b : ℕ} (x : (⟨⟨2, ![a, b]⟩, .f32⟩ : BufTy).Contents (Elt Ideal)) (r : Fin a) (k : Fin b) : EReal := x (ix2 r k)

/-- The entries of a vector. -/
def vec {a : ℕ} (x : (⟨⟨1, ![a]⟩, .f32⟩ : BufTy).Contents (Elt Ideal)) (k : Fin a) : EReal := x (ix1 k)

variable (x0 x2 : (⟨S8x2048x1024, .f32⟩ : BufTy).Contents (Elt Ideal)) (x1 : (⟨S1024x1024, .f32⟩ : BufTy).Contents (Elt Ideal))
  (x3 x4 x5 : (⟨S1024, .f32⟩ : BufTy).Contents (Elt Ideal)) (x6 : (⟨S1024x4096, .f32⟩ : BufTy).Contents (Elt Ideal))
  (x7 : (⟨S4096x1024, .f32⟩ : BufTy).Contents (Elt Ideal)) (b : Fin 8) (s : Fin 2048)

theorem ref_proj (j : Fin 1024) : tok (val_main_v0 (F := Ideal) x0 x1) b s j = ∑ k, tok x0 b s k * mat x1 k j := by
  unfold tok mat
  pointwise [val_main_v0]

theorem ref_mid (j : Fin 1024) : tok (val_main_v14 (F := Ideal) x0 x1 x2 x3) b s j
    = mid eR (tok x0 b s) (mat x1) (tok x2 b s) (vec x3) j := by
  unfold mid rms
  simp only [← ref_proj]
  unfold tok vec
  pointwise [val_main_v14, val_main_v13, val_main_v12, val_main_v11, val_main_v10, val_main_v9, val_main_v8, val_main_v7,
    val_main_v6, val_main_v5, val_main_v4, val_main_v3, val_main_v2, val_main_v1, val_main_cst, val_main_cst_0, val_main_cst_1]

theorem ref_norm (j : Fin 1024) : tok (val_main_v27 (F := Ideal) x0 x1 x2 x3 x4) b s j
    = rms eR (tok (val_main_v14 (F := Ideal) x0 x1 x2 x3) b s) (vec x4) j := by
  unfold rms tok vec
  pointwise [val_main_v27, val_main_v26, val_main_v25, val_main_v24, val_main_v23, val_main_v22, val_main_v21, val_main_v20,
    val_main_v19, val_main_v18, val_main_v17, val_main_v16, val_main_v15, val_main_cst_2, val_main_cst_3, val_main_cst_4]

theorem ref_act (f : Fin 4096) : tok (val_main_v30 (F := Ideal) x0 x1 x2 x3 x4 x6) b s f
    = act (tok (val_main_v27 (F := Ideal) x0 x1 x2 x3 x4) b s) (mat x6) f := by
  unfold act tok mat
  pointwise [val_main_v30, val_main_v29, val_main_v28, val_main_call0_v0, val_main_call0_cst]

theorem ref_ff (j : Fin 1024) : tok (val_main_v31 (F := Ideal) x0 x1 x2 x3 x4 x6 x7) b s j
    = ff (tok (val_main_v27 (F := Ideal) x0 x1 x2 x3 x4) b s) (mat x6) (mat x7) j := by
  unfold ff
  simp only [← ref_act]
  unfold tok mat
  pointwise [val_main_v31]

theorem ref_out (j : Fin 1024) : tok (val_main_v45 (F := Ideal) x0 x1 x2 x3 x4 x5 x6 x7) b s j
    = tok (val_main_v14 (F := Ideal) x0 x1 x2 x3) b s j
      + rms eR (tok (val_main_v31 (F := Ideal) x0 x1 x2 x3 x4 x6 x7) b s) (vec x5) j := by
  unfold rms tok vec
  pointwise [val_main_v45, val_main_v44, val_main_v43, val_main_v42, val_main_v41, val_main_v40, val_main_v39, val_main_v38,
    val_main_v37, val_main_v36, val_main_v35, val_main_v34, val_main_v33, val_main_v32, val_main_cst_5, val_main_cst_6,
    val_main_cst_7]

/-- The plain tail of a layer is `tail` at every token. -/
theorem ref_tail (j : Fin 1024) : val_main_v45 (F := Ideal) x0 x1 x2 x3 x4 x5 x6 x7 (ix3 b s j)
    = tail eR (tok x0 b s) (mat x1) (tok x2 b s) (vec x3) (vec x4) (vec x5) (mat x6) (mat x7) j := by
  have h14 : tok (val_main_v14 (F := Ideal) x0 x1 x2 x3) b s = mid eR (tok x0 b s) (mat x1) (tok x2 b s) (vec x3) :=
    funext fun j => ref_mid x0 x2 x1 x3 b s j
  have h27 : tok (val_main_v27 (F := Ideal) x0 x1 x2 x3 x4) b s
      = rms eR (tok (val_main_v14 (F := Ideal) x0 x1 x2 x3) b s) (vec x4) :=
    funext fun j => ref_norm x0 x2 x1 x3 x4 b s j
  have h31 : tok (val_main_v31 (F := Ideal) x0 x1 x2 x3 x4 x6 x7) b s
      = ff (tok (val_main_v27 (F := Ideal) x0 x1 x2 x3 x4) b s) (mat x6) (mat x7) :=
    funext fun j => ref_ff x0 x2 x1 x3 x4 x6 x7 b s j
  have h := ref_out x0 x2 x1 x3 x4 x5 x6 x7 b s j
  rw [h31, h27, h14] at h
  exact h

end Cert.Tail

end
-- ==== Proof.Tail.Value.lean ====
module

public import proofs.«01_k».proof.Proof.Tail.Body
public import proofs.«01_k».proof.Proof.Tail.Ref
public import Idealize.ShloMosaic.Lib.Claim

/-! # The kernel's result array is the plain tail's -/

@[expose] public section

set_option maxRecDepth 16384

noncomputable section

namespace Cert.Tail

open Cert.Kernel2Ideal Cert.Kernel2Ideal.Gen Idealize.ShloMosaic Idealize.SL.Sem

theorem row_eq {a b : ℕ} {v : (⟨2, ![a, b]⟩ : Shape).Idx → EReal} {r : Fin a} {f : Fin b → EReal}
    (h : ∀ k, v (ix2 r k) = f k) : row v r = f := funext h

variable (m : (ℓ : Loc nD τ sig) → Buf (Elt Ideal) ℓ) (c : Dev nD)

/-- Where each window's block lies at a grid point. -/
theorem idx (t : Fin cfg0.N) : win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0]) t

theorem in0 (t : Fin cfg0.N) (r : Fin 512) (b : Fin 8) (s : Fin 2048) (h : b.val * 2048 + s.val = t.val * 512 + r.val) :
    row (iblk m c 0 t) r = tok (m ((c.tc : Thread nD τ).loc main_arg0)) b s := by
  refine row_eq fun k => ?_
  unfold tok
  obtain ⟨e0, e1, e2, e3, e4, e5, e6, e7, e8⟩ := idx t
  blk_ext! [iblk, V, e0]

theorem in2 (t : Fin cfg0.N) (r : Fin 512) (b : Fin 8) (s : Fin 2048) (h : b.val * 2048 + s.val = t.val * 512 + r.val) :
    row (iblk m c 2 t) r = tok (m ((c.tc : Thread nD τ).loc main_arg2)) b s := by
  refine row_eq fun k => ?_
  unfold tok
  obtain ⟨e0, e1, e2, e3, e4, e5, e6, e7, e8⟩ := idx t
  blk_ext! [iblk, V, e2]

theorem in1 (t : Fin cfg0.N) : row (iblk m c 1 t) = mat (m ((c.tc : Thread nD τ).loc main_arg1)) := by
  refine funext fun r => row_eq fun k => ?_
  unfold mat
  obtain ⟨e0, e1, e2, e3, e4, e5, e6, e7, e8⟩ := idx t
  blk_ext [iblk, V, e1]

theorem in6 (t : Fin cfg0.N) : row (iblk m c 6 t) = mat (m ((c.tc : Thread nD τ).loc main_arg6)) := by
  refine funext fun r => row_eq fun k => ?_
  unfold mat
  obtain ⟨e0, e1, e2, e3, e4, e5, e6, e7, e8⟩ := idx t
  blk_ext [iblk, V, e6]

theorem in7 (t : Fin cfg0.N) : row (iblk m c 7 t) = mat (m ((c.tc : Thread nD τ).loc main_arg7)) := by
  refine funext fun r => row_eq fun k => ?_
  unfold mat
  obtain ⟨e0, e1, e2, e3, e4, e5, e6, e7, e8⟩ := idx t
  blk_ext [iblk, V, e7]

theorem in3 (t : Fin cfg0.N) : row (iblk m c 3 t) 0 = vec (m ((c.tc : Thread nD τ).loc main_arg3)) := by
  refine row_eq fun k => ?_
  unfold vec
  obtain ⟨e0, e1, e2, e3, e4, e5, e6, e7, e8⟩ := idx t
  blk_simp [iblk]
  entry_read
  pointwise
  blk_ext [e3]

theorem in4 (t : Fin cfg0.N) : row (iblk m c 4 t) 0 = vec (m ((c.tc : Thread nD τ).loc main_arg4)) := by
  refine row_eq fun k => ?_
  unfold vec
  obtain ⟨e0, e1, e2, e3, e4, e5, e6, e7, e8⟩ := idx t
  blk_simp [iblk]
  entry_read
  pointwise
  blk_ext [e4]

theorem in5 (t : Fin cfg0.N) : row (iblk m c 5 t) 0 = vec (m ((c.tc : Thread nD τ).loc main_arg5)) := by
  refine row_eq fun k => ?_
  unfold vec
  obtain ⟨e0, e1, e2, e3, e4, e5, e6, e7, e8⟩ := idx t
  blk_simp [iblk]
  entry_read
  pointwise
  blk_ext [e5]

/-- The plain tail of the kernel's arguments, one row per token. -/
def G : Buf (Elt Ideal) ((c.tc : Thread nD τ).loc main_v9) :=
  Cert.Reference2Ideal.Read.val_main_v46 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The tail of a block's row is the plain tail at the token that the row is. -/
theorem blk_tail (t : Fin cfg0.N) (ht : t.val < 32) (r : Fin 512) (j : Fin 1024) :
    tail eK (row (iblk m c 0 t) r) (row (iblk m c 1 t)) (row (iblk m c 2 t) r) (row (iblk m c 3 t) 0)
      (row (iblk m c 4 t) 0) (row (iblk m c 5 t) 0) (row (iblk m c 6 t)) (row (iblk m c 7 t)) j
    = Cert.Reference2Ideal.Read.val_main_v45 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (ix3 ⟨(t.val * 512 + r.val) / 2048, by omega⟩ ⟨(t.val * 512 + r.val) % 2048, by omega⟩ j) := by
  rw [ref_tail, in1, in3, in4, in5, in6, in7, in0 m c t r ⟨(t.val * 512 + r.val) / 2048, by omega⟩ ⟨(t.val * 512 + r.val) % 2048, by omega⟩
    (by show (t.val * 512 + r.val) / 2048 * 2048 + (t.val * 512 + r.val) % 2048 = _; omega),
    in2 m c t r ⟨(t.val * 512 + r.val) / 2048, by omega⟩ ⟨(t.val * 512 + r.val) % 2048, by omega⟩
    (by show (t.val * 512 + r.val) / 2048 * 2048 + (t.val * 512 + r.val) % 2048 = _; omega)]

/-- Every written block is the plain tail's at its place. -/
theorem arr_eq : (dats m 0 c).arrAt 8 cfg0.N = G m c := by
  refine (dats m 0 c).arrAt_eq_of_covers 8 _ (by decide +kernel) fun t hf y => ?_
  blk_simp
  rw [after0_8, out_at]
  unfold G
  obtain ⟨e0, e1, e2, e3, e4, e5, e6, e7, e8⟩ := idx t
  rw [Cert.Reference2Ideal.Read.val_main_v46_apply]
  have ht : t.val < 32 := t.isLt
  have hy : (y 0).val < 512 := (y 0).isLt
  have hj : (y 1).val < 1024 := (y 1).isLt
  have h : (Cert.Reference2Ideal.Read.idx_main_v46 (((cfg0.win 8).blk t).view.emb y))
      = ix3 ⟨(t.val * 512 + (y 0).val) / 2048, by omega⟩ ⟨(t.val * 512 + (y 0).val) % 2048, by omega⟩ (y 1) := by
    have p0 : ((((cfg0.win 8).blk t).view.emb y) 0 : ℕ) = t.val * 512 + (y 0).val := by blk_simp [e8]
    have p1 : ((((cfg0.win 8).blk t).view.emb y) 1 : ℕ) = (y 1).val := by blk_simp [e8]
    funext a
    fin_cases a <;> refine Fin.ext ?_
    · show (((((cfg0.win 8).blk t).view.emb y) 0 : ℕ) * 1024 + ((((cfg0.win 8).blk t).view.emb y) 1 : ℕ)) / 2097152 = (t.val * 512 + (y 0).val) / 2048
      rw [p0, p1]; omega
    · show (((((cfg0.win 8).blk t).view.emb y) 0 : ℕ) * 1024 + ((((cfg0.win 8).blk t).view.emb y) 1 : ℕ)) / 1024 % 2048 = (t.val * 512 + (y 0).val) % 2048
      rw [p0, p1]; omega
    · show (((((cfg0.win 8).blk t).view.emb y) 0 : ℕ) * 1024 + ((((cfg0.win 8).blk t).view.emb y) 1 : ℕ)) % 1024 = (y 1).val
      rw [p0, p1]; omega
  rw [h]
  exact blk_tail m c t ht ⟨(y 0).val, hy⟩ ⟨(y 1).val, hj⟩

end Cert.Tail

end
-- ==== Proof.Tail.Claim.lean ====
module

public import proofs.«01_k».proof.Defs
public import proofs.«01_k».proof.Proof.Tail.Value
public import proofs.«01_k».proof.Proof.Gen.Reference2Ideal.Run

/-! # The tail's claim -/

@[expose] public section

noncomputable section

namespace Cert.Tail

open Idealize.ShloMosaic Idealize.SL.Sem

/-- The kernel and the plain tail end with the same result array. -/
theorem equal : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    rw [arr_eq, Cert.Reference2Ideal.Read.val_main_v46_eq]
    obtain ⟨h0, h1, h2, h3, h4, h5, h6, h7⟩ := hagree c
    rw [h0, h1, h2, h3, h4, h5, h6, h7]
    rfl

end Cert.Tail

end
-- ==== Proof.Attn.Math.lean ====
module

public import Idealize.ShloMosaic.Lib.Pointwise

/-! # The softmax over a window, with and without the subtracted maximum

`core` is attention at one position without a maximum: the sum over the window of the values times
the exponentials of the logits, divided by the sum of those exponentials plus the sink's. Both ways
of computing it — a power of two over 384 columns, and an exponential over 385 columns — subtract
some real number first, which cancels. -/

@[expose] public section

noncomputable section

namespace Cert.Attn

open Idealize.ShloMosaic

/-- Position `u` lies in the window of position `s`. -/
def near (u s : Fin 2048) : Prop := (u : ℕ) ≤ s + 128 ∧ (s : ℕ) ≤ u + 128

instance (u s : Fin 2048) : Decidable (near u s) := inferInstanceAs (Decidable (_ ∧ _))

/-- Attention at position `s` over logits `z`, a sink's logit `σ` and values `v`. -/
def core (s : Fin 2048) (z : Fin 2048 → ℝ) (σ : ℝ) (v : Fin 2048 → EReal) : EReal :=
  (∑ u, if near u s then v u * ((Real.exp (z u) : ℝ) : EReal) else 0)
    * (((∑ u, (if near u s then Real.exp (z u) else 0) + Real.exp σ)⁻¹ : ℝ) : EReal)

theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (x : EReal) {r : ℝ} (hr : r ≠ 0) : Ideal.div x (r : EReal) = x * ((r⁻¹ : ℝ) : EReal) := by
  unfold Ideal.div
  rw [if_neg (by exact_mod_cast hr), EReal.coe_inv]

theorem rpow_two (x : ℝ) : Real.rpow 2 x = Real.exp (x * Real.log 2) := by
  change (2 : ℝ) ^ x = _
  rw [Real.rpow_def_of_pos (by norm_num), mul_comm]

theorem log2_ne : Real.log 2 ≠ 0 := (Real.log_pos (by norm_num)).ne'

theorem fold_lt_top {n : ℕ} (y : Fin n → EReal) (h : ∀ x, y x ≠ ⊤) : Finset.fold max ⊥ y Finset.univ < ⊤ :=
  Finset.fold_max_lt _ |>.2 ⟨bot_lt_top, fun x _ => lt_top_iff_ne_top.2 (h x)⟩

theorem real_of {M : EReal} (h : M ≠ ⊤) (h' : M ≠ ⊥) : ∃ m : ℝ, M = (m : EReal) :=
  ⟨M.toReal, (EReal.coe_toReal h h').symm⟩

/-- The power of two over the columns, the maximum subtracted. -/
theorem soft2 {n : ℕ} (E : Fin n → ℝ) (y w : Fin n → EReal)
    (hy : ∀ x, (y x = ⊥ ∧ E x = 0) ∨ ∃ z : ℝ, y x = ((z * (Real.log 2)⁻¹ : ℝ) : EReal) ∧ E x = Real.exp z)
    (σ : ℝ) (sk M : EReal) (hs : sk = ((σ * (Real.log 2)⁻¹ : ℝ) : EReal))
    (hM : M = max (Finset.fold max ⊥ y Finset.univ) sk) :
    Ideal.div (∑ x, Ideal.exp2 (y x - M) * w x) (∑ x, Ideal.exp2 (y x - M) + Ideal.exp2 (sk - M))
      = (∑ x, w x * (E x : EReal)) * (((∑ x, E x + Real.exp σ)⁻¹ : ℝ) : EReal) := by
  have h0 : ∀ x, 0 ≤ E x := fun x => by
    rcases hy x with ⟨-, h⟩ | ⟨z, -, h⟩
    · exact h.ge
    · exact h ▸ (Real.exp_pos z).le
  have ht : M ≠ ⊤ := by
    rw [hM]
    refine (max_lt (fold_lt_top y fun x => ?_) (hs ▸ EReal.coe_lt_top _)).ne
    rcases hy x with ⟨h, -⟩ | ⟨z, h, -⟩
    · rw [h]; exact bot_ne_top
    · rw [h]; exact EReal.coe_ne_top _
  have hb : M ≠ ⊥ := by
    rw [hM]
    exact ((hs ▸ EReal.bot_lt_coe _ : ⊥ < sk).trans_le (le_max_right _ _)).ne'
  obtain ⟨m, rfl⟩ := real_of ht hb
  have hc := Real.exp_pos (-(m * Real.log 2))
  have key : ∀ z : ℝ, Ideal.exp2 (((z * (Real.log 2)⁻¹ : ℝ) : EReal) - (m : EReal))
      = ((Real.exp z * Real.exp (-(m * Real.log 2)) : ℝ) : EReal) := fun z => by
    rw [← EReal.coe_sub, Ideal.exp2_coe, rpow_two, ← Real.exp_add]
    congr 2
    field_simp [log2_ne]
    ring
  have e1 : ∀ x, Ideal.exp2 (y x - (m : EReal)) = ((E x * Real.exp (-(m * Real.log 2)) : ℝ) : EReal) := fun x => by
    rcases hy x with ⟨h, h'⟩ | ⟨z, h, h'⟩
    · rw [h, h', EReal.bot_sub, Ideal.exp2_bot, zero_mul, EReal.coe_zero]
    · rw [h, h', key]
  have hD : 0 < ∑ x, E x + Real.exp σ := add_pos_of_nonneg_of_pos (Finset.sum_nonneg fun x _ => h0 x) (Real.exp_pos σ)
  simp only [e1]
  rw [hs, key, ← coe_sum, ← EReal.coe_add, ← Finset.sum_mul, ← add_mul, div_coe _ (mul_pos hD hc).ne']
  have e2 : ∀ x, ((E x * Real.exp (-(m * Real.log 2)) : ℝ) : EReal) * w x
      = w x * (E x : EReal) * ((Real.exp (-(m * Real.log 2)) : ℝ) : EReal) := fun x => by
    rw [EReal.coe_mul, mul_comm, mul_assoc]
  simp only [e2]
  rw [← sum_mul_coe _ _ hc.le, mul_assoc, ← EReal.coe_mul]
  congr 2
  field_simp

/-- The exponential over one more column, the maximum subtracted, each column divided on its own. -/
theorem soft1 (E : Fin 384 → ℝ) (X : Fin 385 → EReal) (w : Fin 384 → EReal)
    (hy : ∀ x : Fin 384, (X ⟨x, by omega⟩ = ⊥ ∧ E x = 0) ∨ ∃ z : ℝ, X ⟨x, by omega⟩ = (z : EReal) ∧ E x = Real.exp z)
    (σ : ℝ) (hs : X ⟨384, by omega⟩ = (σ : EReal)) (M : EReal)
    (hM : M = max ⊥ (Finset.fold max ⊥ X Finset.univ)) :
    (∑ x : Fin 384, w x * Ideal.div (Ideal.exp (X ⟨x, by omega⟩ - M)) (∑ j, Ideal.exp (X j - M)))
      = (∑ x, w x * (E x : EReal)) * (((∑ x, E x + Real.exp σ)⁻¹ : ℝ) : EReal) := by
  have h0 : ∀ x, 0 ≤ E x := fun x => by
    rcases hy x with ⟨-, h⟩ | ⟨z, -, h⟩
    · exact h.ge
    · exact h ▸ (Real.exp_pos z).le
  have hx : ∀ j, X j ≠ ⊤ := fun j => by
    rcases lt_or_ge (j : ℕ) 384 with h | h
    · rcases hy ⟨j, h⟩ with ⟨h, -⟩ | ⟨z, h, -⟩
      · exact fun h' => bot_ne_top (h.symm.trans h')
      · exact fun h' => EReal.coe_ne_top _ (h.symm.trans h')
    · have e : j = ⟨384, by omega⟩ := Fin.ext (by dsimp only; omega)
      exact fun h' => EReal.coe_ne_top _ (hs.symm.trans (e ▸ h'))
  have ht : M ≠ ⊤ := by
    rw [hM]
    exact (max_lt bot_lt_top (fold_lt_top X hx)).ne
  have hb : M ≠ ⊥ := by
    rw [hM]
    have : (σ : EReal) ≤ Finset.fold max ⊥ X Finset.univ :=
      Finset.le_fold_max _ |>.2 (Or.inr ⟨⟨384, by omega⟩, Finset.mem_univ _, hs.ge⟩)
    exact ((EReal.bot_lt_coe σ).trans_le (this.trans (le_max_right _ _))).ne'
  obtain ⟨m, rfl⟩ := real_of ht hb
  have hc := Real.exp_pos (-m)
  have key : ∀ z : ℝ, Ideal.exp ((z : EReal) - (m : EReal)) = ((Real.exp z * Real.exp (-m) : ℝ) : EReal) := fun z => by
    rw [← EReal.coe_sub, Ideal.exp_coe, ← Real.exp_add, sub_eq_add_neg]
  have e1 : ∀ x : Fin 384, Ideal.exp (X ⟨x, by omega⟩ - (m : EReal)) = ((E x * Real.exp (-m) : ℝ) : EReal) := fun x => by
    rcases hy x with ⟨h, h'⟩ | ⟨z, h, h'⟩
    · rw [h, h', EReal.bot_sub, Ideal.exp_bot, zero_mul, EReal.coe_zero]
    · rw [h, h', key]
  have hD : 0 < ∑ x, E x + Real.exp σ := add_pos_of_nonneg_of_pos (Finset.sum_nonneg fun x _ => h0 x) (Real.exp_pos σ)
  have eD : (∑ j, Ideal.exp (X j - (m : EReal))) = (((∑ x, E x + Real.exp σ) * Real.exp (-m) : ℝ) : EReal) := by
    rw [Fin.sum_univ_castSucc (n := 384)]
    have : X (Fin.last 384) = (σ : EReal) := hs
    rw [this, key, add_mul, Finset.sum_mul, EReal.coe_add, coe_sum]
    exact congrArg (· + _) (Finset.sum_congr rfl fun x _ => e1 x)
  rw [eD, sum_mul_coe _ _ (inv_pos.2 hD).le]
  refine Finset.sum_congr rfl fun x _ => ?_
  rw [e1, div_coe _ (mul_pos hD hc).ne', mul_assoc, ← EReal.coe_mul, ← EReal.coe_mul]
  congr 2
  field_simp

/-- A sum over 384 columns that show the positions from `a - 128` on is a sum over the positions. -/
theorem window_sum {R : Type*} [AddCommMonoid R] (f : Fin 2048 → R) (p : Fin 2048 → Prop) [DecidablePred p] (a : ℕ)
    (ha : ∀ u, p u → a ≤ (u : ℕ) + 128 ∧ (u : ℕ) + 128 < a + 384) :
    (∑ t : Fin 384, if h : 128 ≤ a + t ∧ a + t < 2176 then
        (if p ⟨a + t - 128, by omega⟩ then f ⟨a + t - 128, by omega⟩ else 0) else 0)
      = ∑ u, if p u then f u else 0 := by
  rw [← Finset.sum_filter]
  refine (Finset.sum_of_injOn (fun u : Fin 2048 => (⟨(u + 128 - a) % 384, Nat.mod_lt _ (by omega)⟩ : Fin 384)) ?_ ?_ ?_ ?_).symm
  · intro u hu u' hu' h
    have h1 := ha u (Finset.mem_filter.1 hu).2
    have h2 := ha u' (Finset.mem_filter.1 hu').2
    have h3 : (u + 128 - a) % 384 = (u' + 128 - a) % 384 := congrArg Fin.val h
    rw [Nat.mod_eq_of_lt (by omega), Nat.mod_eq_of_lt (by omega)] at h3
    exact Fin.ext (by omega)
  · exact fun _ _ => Finset.mem_coe.2 (Finset.mem_univ _)
  · intro t _ ht
    by_cases h : 128 ≤ a + t ∧ a + t < 2176
    · rw [dif_pos h]
      by_cases hp : p ⟨a + t - 128, by omega⟩
      · refine absurd ⟨⟨a + t - 128, by omega⟩, Finset.mem_coe.2 (Finset.mem_filter.2 ⟨Finset.mem_univ _, hp⟩), ?_⟩ ht
        refine Fin.ext ?_
        change (a + t - 128 + 128 - a) % 384 = t
        rw [Nat.mod_eq_of_lt (by omega)]
        omega
      · rw [if_neg hp]
    · rw [dif_neg h]
  · intro u hu
    have hp := (Finset.mem_filter.1 hu).2
    have h1 := ha u hp
    have e : (u + 128 - a) % 384 = u + 128 - a := Nat.mod_eq_of_lt (by omega)
    have e' : a + (u + 128 - a) % 384 - 128 = u := by omega
    dsimp only
    rw [dif_pos ⟨by omega, by omega⟩]
    simp only [e']
    rw [if_pos hp]

/-- The columns' sums as attention over the positions. -/
theorem window_core (a : ℕ) (s : Fin 2048) (ha : ∀ u, near u s → a ≤ (u : ℕ) + 128 ∧ (u : ℕ) + 128 < a + 384)
    (z : Fin 2048 → ℝ) (σ : ℝ) (v : Fin 2048 → EReal) (E : Fin 384 → ℝ) (w : Fin 384 → EReal)
    (hE : ∀ t : Fin 384, E t = if h : 128 ≤ a + t ∧ a + t < 2176 then
      (if near ⟨a + t - 128, by omega⟩ s then Real.exp (z ⟨a + t - 128, by omega⟩) else 0) else 0)
    (hw : ∀ (t : Fin 384) (h : 128 ≤ a + t ∧ a + t < 2176), w t = v ⟨a + t - 128, by omega⟩) :
    (∑ x, w x * (E x : EReal)) * (((∑ x, E x + Real.exp σ)⁻¹ : ℝ) : EReal) = core s z σ v := by
  unfold core
  rw [← window_sum (fun u => v u * ((Real.exp (z u) : ℝ) : EReal)) (near · s) a ha,
    ← window_sum (fun u => Real.exp (z u)) (near · s) a ha]
  congr 1
  · refine Finset.sum_congr rfl fun t _ => ?_
    rw [hE]
    by_cases h : 128 ≤ a + (t : ℕ) ∧ a + (t : ℕ) < 2176
    · rw [dif_pos h, dif_pos h, hw t h]
      split
      · rfl
      · rw [EReal.coe_zero, mul_zero]
    · rw [dif_neg h, dif_neg h, EReal.coe_zero, mul_zero]
  · refine congrArg (fun r : ℝ => ((r⁻¹ : ℝ) : EReal)) (congrArg (· + Real.exp σ) (Finset.sum_congr rfl fun t _ => hE t))

/-- The kernel's way over the window that starts at `ks`. -/
theorem soft2_core (ks : ℕ) (hk : ks + 384 ≤ 2048) (s : Fin 2048)
    (ha : ∀ u, near u s → ks ≤ (u : ℕ) ∧ (u : ℕ) < ks + 384)
    (z : Fin 2048 → ℝ) (σ : ℝ) (v : Fin 2048 → EReal) (y w : Fin 384 → EReal)
    (hy : ∀ t : Fin 384, y t = if near ⟨ks + t, by omega⟩ s then ((z ⟨ks + t, by omega⟩ * (Real.log 2)⁻¹ : ℝ) : EReal) else ⊥)
    (hw : ∀ t : Fin 384, w t = v ⟨ks + t, by omega⟩)
    (sk M : EReal) (hs : sk = ((σ * (Real.log 2)⁻¹ : ℝ) : EReal))
    (hM : M = max (Finset.fold max ⊥ y Finset.univ) sk) :
    Ideal.div (∑ x, Ideal.exp2 (y x - M) * w x) (∑ x, Ideal.exp2 (y x - M) + Ideal.exp2 (sk - M)) = core s z σ v := by
  rw [soft2 (fun t : Fin 384 => if near ⟨ks + t, by omega⟩ s then Real.exp (z ⟨ks + t, by omega⟩) else 0) y w ?_ σ sk M hs hM]
  · refine window_core (ks + 128) s (fun u hu => by have := ha u hu; omega) z σ v _ w (fun t => ?_) (fun t h => ?_)
    · have e : ks + 128 + (t : ℕ) - 128 = ks + t := by omega
      rw [dif_pos ⟨by omega, by omega⟩]
      simp only [e]
    · have e : ks + 128 + (t : ℕ) - 128 = ks + t := by omega
      simp only [e]
      exact hw t
  · intro t
    rw [hy]
    by_cases h : near ⟨ks + t, by omega⟩ s
    · exact Or.inr ⟨z ⟨ks + t, by omega⟩, by rw [if_pos h], by rw [if_pos h]⟩
    · exact Or.inl ⟨by rw [if_neg h], by rw [if_neg h]⟩

/-- The reference's way over the padded blocks around block `n`. -/
theorem soft1_core (a : ℕ) (s : Fin 2048) (ha : ∀ u, near u s → a ≤ (u : ℕ) + 128 ∧ (u : ℕ) + 128 < a + 384)
    (z : Fin 2048 → ℝ) (σ : ℝ) (v : Fin 2048 → EReal) (X : Fin 385 → EReal) (w : Fin 384 → EReal)
    (hX : ∀ t : Fin 384, X ⟨t, by omega⟩ = if h : 128 ≤ a + t ∧ a + t < 2176 then
      (if near ⟨a + t - 128, by omega⟩ s then ((z ⟨a + t - 128, by omega⟩ : ℝ) : EReal) else ⊥) else ⊥)
    (hs : X ⟨384, by omega⟩ = (σ : EReal))
    (hw : ∀ (t : Fin 384) (h : 128 ≤ a + t ∧ a + t < 2176), w t = v ⟨a + t - 128, by omega⟩)
    (M : EReal) (hM : M = max ⊥ (Finset.fold max ⊥ X Finset.univ)) :
    (∑ x : Fin 384, w x * Ideal.div (Ideal.exp (X ⟨x, by omega⟩ - M)) (∑ j, Ideal.exp (X j - M))) = core s z σ v := by
  rw [soft1 (fun t : Fin 384 => if h : 128 ≤ a + t ∧ a + t < 2176 then
      (if near ⟨a + t - 128, by omega⟩ s then Real.exp (z ⟨a + t - 128, by omega⟩) else 0) else 0) X w ?_ σ hs M hM]
  · exact window_core a s ha z σ v _ w (fun t => rfl) hw
  · intro t
    rw [hX]
    by_cases h : 128 ≤ a + (t : ℕ) ∧ a + (t : ℕ) < 2176
    · rw [dif_pos h, dif_pos h]
      by_cases h' : near ⟨a + t - 128, by omega⟩ s
      · exact Or.inr ⟨z ⟨a + t - 128, by omega⟩, by rw [if_pos h'], by rw [if_pos h']⟩
      · exact Or.inl ⟨by rw [if_neg h'], by rw [if_neg h']⟩
    · exact Or.inl ⟨by rw [dif_neg h], by rw [dif_neg h]⟩

/-- The query, keys and values of one batch entry, packed as the kernel has them, to the attention's value at
position `s` and lane `c`: head `c / 64`, its keys in group `c / 256`. -/
def attn (q : Fin 2048 → Fin 1024 → ℝ) (k : Fin 2048 → Fin 256 → ℝ) (sink : Fin 16 → ℝ) (v : Fin 2048 → Fin 256 → EReal)
    (s : Fin 2048) (c : Fin 1024) : EReal :=
  core s (fun u => (∑ d : Fin 64, q s ⟨(c : ℕ) / 64 * 64 + d, by omega⟩ * k u ⟨(c : ℕ) / 256 * 64 + d, by omega⟩) * 8⁻¹)
    (sink ⟨(c : ℕ) / 64, by omega⟩) (fun u => v u ⟨(c : ℕ) / 256 * 64 + (c : ℕ) % 64, by omega⟩)

end Cert.Attn

end
-- ==== Proof.Attn.Body.lean ====
module

public import proofs.«01_k».proof.Proof.Gen.KernelIdeal.Skeleton
public import Idealize.ShloMosaic.Lib.Pipeline.ValueKit
public import proofs.«01_k».proof.Proof.Attn.Math

/-! # One group's block of the attention, at a row and a lane

What a trip stores for one group of heads: four heads' queries stacked over disjoint lanes, their
powers of two against the window, and each head's own lanes taken back out. -/

@[expose] public section

set_option maxRecDepth 16384

noncomputable section

namespace Cert.Attn

open Cert.KernelIdeal Cert.KernelIdeal.Gen Idealize.ShloMosaic

theorem sel {α : Type} (p : Prop) [Decidable p] (a b : α) :
    Scalar.select (if p then 1#1 else 0#1) a b = if p then a else b := by
  by_cases h : p <;> simp [Scalar.select, h]

theorem mask_name : (Named.named κ "mask" 4048155338#32 : Ideal .f32) = (⊥ : EReal) := by
  simp [Named.named, κ]

theorem qscale_name : (Named.named κ "qscale" 1043900987#32 : Ideal .f32) = (((Real.log 256)⁻¹ : ℝ) : EReal) := by
  simp [Named.named, κ]

theorem log2e_name : (Named.named κ "log2e" 1069066811#32 : Ideal .f32) = (((Real.log 2)⁻¹ : ℝ) : EReal) := by
  simp [Named.named, κ]

theorem lanes0 (i : Fin 128) (l : Fin 256) : k0_pay36 (ix2 i l) = if (l : ℕ) / 64 = 0 then 1#1 else 0#1 := by
  pointwise [k0_pay36]
  revert l; decide +kernel

theorem lanes1 (i : Fin 128) (l : Fin 256) : k0_pay37 (ix2 i l) = if (l : ℕ) / 64 = 1 then 1#1 else 0#1 := by
  pointwise [k0_pay37]
  revert l; decide +kernel

theorem lanes2 (i : Fin 128) (l : Fin 256) : k0_pay38 (ix2 i l) = if (l : ℕ) / 64 = 2 then 1#1 else 0#1 := by
  pointwise [k0_pay38]
  revert l; decide +kernel

theorem lanes3 (i : Fin 128) (l : Fin 256) : k0_pay39 (ix2 i l) = if (l : ℕ) / 64 = 3 then 1#1 else 0#1 := by
  pointwise [k0_pay39]
  revert l; decide +kernel

/-- Each head's lanes of the stacked result, from the head's own rows. -/
def pick (m0 m1 m2 m3 : IVec S128x256 1) (o : FVec Ideal S512x256 .f32) : FVec Ideal S1x128x256 .bf16 :=
  shapeCast S1x128x256 (truncf .bf16
    (select m3 (extractStridedSlice S128x256 ![384, 0] o slices_S512x256_o384_0_S128x256)
      (select m2 (extractStridedSlice S128x256 ![256, 0] o slices_S512x256_o256_0_S128x256)
        (select m1 (extractStridedSlice S128x256 ![128, 0] o slices_S512x256_o128_0_S128x256)
          (select m0 (extractStridedSlice S128x256 ![0, 0] o slices_S512x256_o0_0_S128x256)
            (broadcast S128x256 (Scalar.ofBits .f32 0x00000000#32)))))) bitsLt_bf16_f32) shapeCasts_S128x256_S1x128x256

theorem pick_at (o : FVec Ideal S512x256 .f32) (i : Fin 128) (l : Fin 256) :
    pick k0_pay36 k0_pay37 k0_pay38 k0_pay39 o (ix3 0 i l) = o (ix2 ⟨(l : ℕ) / 64 * 128 + i, by omega⟩ l) := by
  pointwise [pick]
  rw [lanes0, lanes1, lanes2, lanes3]
  simp only [sel]
  rcases (by omega : (l : ℕ) / 64 = 0 ∨ (l : ℕ) / 64 = 1 ∨ (l : ℕ) / 64 = 2 ∨ (l : ℕ) / 64 = 3) with h | h | h | h <;>
    simp [h]

/-- The row's head, as the kernel's word has it. -/
theorem block_at (R : Fin 512) :
    k0_pay1 (iota .tc S512x1 32 [0] iota_S512x1_d0_w32) 128#32 k0_pay40 k0_pay41
      (Scalar.extui (Scalar.cmpi .sgt 128#32 0#32)) (ix2 R 0) = BitVec.ofNat 32 ((R : ℕ) / 128) := by
  pointwise [k0_pay1, k0_pay40, k0_pay41]
  revert R; decide +kernel

/-- The sink's column at a row: the row's own head's sink, in powers of two. -/
theorem sink_at (w : IVec S512x1 32) (hw : ∀ R : Fin 512, w (ix2 R 0) = BitVec.ofNat 32 ((R : ℕ) / 128))
    (a b c d : Elt Ideal .f32) (R : Fin 512) :
    k0_pay21 w a b c d (ix2 R 0)
      = (![(a : EReal), b, c, d] ⟨(R : ℕ) / 128, by omega⟩) * (((Real.log 2)⁻¹ : ℝ) : EReal) := by
  pointwise [k0_pay21]
  rw [hw, log2e_name]
  rcases (by omega : (R : ℕ) / 128 = 0 ∨ (R : ℕ) / 128 = 1 ∨ (R : ℕ) / 128 = 2 ∨ (R : ℕ) / 128 = 3) with h | h | h | h <;>
    simp [h, Scalar.select, IntOp.cmpi]

/-- The stacked queries at a row and a lane: the row's head's scaled query on the head's own lanes, zero elsewhere. -/
theorem query_at (q : Vec Ideal S1x128x256 .f32) (R : Fin 512) (x : Fin 256) :
    k0_pay4 k0_pay36 k0_pay37 k0_pay38 k0_pay39 q (ix2 R x)
      = if (x : ℕ) / 64 = (R : ℕ) / 128 then
          (q (ix3 0 ⟨(R : ℕ) % 128, by omega⟩ x) : EReal) * (((Real.log 256)⁻¹ : ℝ) : EReal) else 0 := by
  pointwise [k0_pay4]
  simp only [lanes0, lanes1, lanes2, lanes3, qscale_name, sel]
  split
  · rename_i h
    simp only [show (R : ℕ) / 128 = 0 by omega, show (R : ℕ) % 128 = R by omega]
  split
  · rename_i h
    simp only [show (R : ℕ) / 128 = 1 by omega, show (R : ℕ) % 128 = R - 128 by omega]
  split
  · rename_i h
    simp only [show (R : ℕ) / 128 = 2 by omega, show (R : ℕ) % 128 = R - 128 - 128 by omega]
  · simp only [show (R : ℕ) / 128 = 3 by omega, show (R : ℕ) % 128 = R - 128 - 128 - 128 by omega]

/-- Where trip `k`'s window starts. -/
def start (k : ℕ) : ℕ := min 1664 (128 * k - 128)

theorem trips_lt (k : Fin k0_t1_loop.trips) : (k : ℕ) < 16 :=
  lt_of_lt_of_le k.isLt (by decide +kernel)

theorem word_row (k : Fin k0_t1_loop.trips) :
    Scalar.muli (Scf.iv 0#32 1#32 k) 128#32 = BitVec.ofNat 32 (128 * k) :=
  (by decide +kernel : ∀ k : Fin k0_t1_loop.trips, Scalar.muli (Scf.iv 0#32 1#32 k) 128#32 = BitVec.ofNat 32 (128 * k)) k

theorem word_start (k : Fin k0_t1_loop.trips) :
    Scalar.minsi 1664#32 (Scalar.maxsi 0#32 (Scalar.subi (Scalar.muli (Scf.iv 0#32 1#32 k) 128#32) 128#32))
      = BitVec.ofNat 32 (start k) :=
  (by decide +kernel : ∀ k : Fin k0_t1_loop.trips,
    Scalar.minsi 1664#32 (Scalar.maxsi 0#32 (Scalar.subi (Scalar.muli (Scf.iv 0#32 1#32 k) 128#32) 128#32))
      = BitVec.ofNat 32 (start k)) k

theorem word_near (a t b i : ℕ) (ha : a ≤ 2048) (hb : b ≤ 2048) (ht : t < 2048) (hi : i < 2048) :
    IntOp.cmpi CmpIPredicate.sle (IntOp.absi (IntOp.subi (IntOp.addi (BitVec.ofNat 32 a) (BitVec.ofNat 32 t))
      (IntOp.addi (BitVec.ofNat 32 b) (BitVec.ofNat 32 i)))) 128#32
      = if a + t ≤ b + i + 128 ∧ b + i ≤ a + t + 128 then 1#1 else 0#1 := by
  have hA : (BitVec.ofNat 32 (a + t)).toInt = ((a + t : ℕ) : ℤ) := by
    rw [BitVec.toInt_ofNat']; exact Int.bmod_eq_of_le (by omega) (by omega)
  have hB : (BitVec.ofNat 32 (b + i)).toInt = ((b + i : ℕ) : ℤ) := by
    rw [BitVec.toInt_ofNat']; exact Int.bmod_eq_of_le (by omega) (by omega)
  have hx : (BitVec.ofNat 32 (a + t) - BitVec.ofNat 32 (b + i)).toInt = ((a + t : ℕ) : ℤ) - ((b + i : ℕ) : ℤ) := by
    rw [BitVec.toInt_sub, hA, hB]; exact Int.bmod_eq_of_le (by omega) (by omega)
  unfold IntOp.subi IntOp.addi
  rw [← BitVec.ofNat_add, ← BitVec.ofNat_add]
  generalize BitVec.ofNat 32 (a + t) - BitVec.ofNat 32 (b + i) = x at hx
  have hn : (-x).toInt = -x.toInt := by
    rw [BitVec.toInt_neg]; exact Int.bmod_eq_of_le (by omega) (by omega)
  have h1 : (IntOp.absi x).toInt = if x.toInt < 0 then -x.toInt else x.toInt := by
    unfold IntOp.absi
    rw [BitVec.msb_eq_toInt]
    by_cases h : x.toInt < 0 <;> simp [h, hn]
  have h2 : IntOp.cmpi CmpIPredicate.sle (IntOp.absi x) 128#32 = if (IntOp.absi x).toInt ≤ 128 then 1#1 else 0#1 := by
    have : (IntOp.absi x).sle 128#32 = decide ((IntOp.absi x).toInt ≤ 128) := by
      rw [BitVec.sle_eq_decide]; rfl
    simp only [IntOp.cmpi, this]
    by_cases h : (IntOp.absi x).toInt ≤ 128 <;> simp [h]
  rw [h2, h1]
  refine if_congr ?_ rfl rfl
  split <;> omega

theorem mask_at (k : Fin k0_t1_loop.trips) (R : Fin 512) (t : Fin 384) :
    k0_pay3 (F := Ideal) 0#32 1#32 k (ix2 R t)
      = (if start k + t ≤ 128 * k + (R : ℕ) % 128 + 128 ∧ 128 * k + (R : ℕ) % 128 ≤ start k + t + 128 then 0 else ⊥ : EReal) := by
  have hk := trips_lt k
  have hs : start k ≤ 2048 := (min_le_left _ _).trans (by omega)
  have wn : ∀ i : ℕ, i < 2048 → Scalar.select (IntOp.cmpi CmpIPredicate.sle (IntOp.absi (IntOp.subi
      (IntOp.addi (BitVec.ofNat 32 (start k)) (BitVec.ofNat 32 t))
      (IntOp.addi (BitVec.ofNat 32 (128 * k)) (BitVec.ofNat 32 i)))) 128#32) (0 : EReal) ⊥
      = if start k + t ≤ 128 * k + i + 128 ∧ 128 * k + i ≤ start k + t + 128 then 0 else ⊥ := fun i hi => by
    rw [word_near _ _ _ _ hs (by omega) (by omega) hi, sel]
  pointwise [k0_pay3]
  rw [word_start, word_row, mask_name]
  split
  · rw [show (R : ℕ) % 128 = R by omega]
    exact wn _ (by omega)
  split
  · rw [show (R : ℕ) % 128 = R - 128 by omega]
    exact wn _ (by omega)
  split
  · rw [show (R : ℕ) % 128 = R - 128 - 128 by omega]
    exact wn _ (by omega)
  · rw [show (R : ℕ) % 128 = R - 128 - 128 - 128 by omega]
    exact wn _ (by omega)

/-- The stacked result from the masked logits, the sink's column and the values. -/
def stacked (y : FVec Ideal S512x384 .f32) (s : FVec Ideal S512x1 .f32) (v : Vec Ideal S1x384x256 .bf16) :
    FVec Ideal S512x256 .f32 :=
  have m : FVec Ideal S512x1 .f32 := maximumf (shapeCast S512x1
    (multiReduction .maximumf [1] S512 y 0xFF800000#32 reduces_S512x384_S512 (.inl rfl) rfl) shapeCasts_S512_S512x1) s
  have p : FVec Ideal S512x384 .f32 := exp2 (subf y (broadcastTo S512x384 m broadcasts_S512x1_S512x384))
  divf (matmul (φ₂ := .bf16) dot_S512x384_S384x256_S512x256_1_0_0_1_n_n none (truncf .bf16 p bitsLt_bf16_f32)
      (shapeCast S384x256 v shapeCasts_S1x384x256_S384x256) (constant S512x256 .f32 0x00000000#32))
    (broadcastTo S512x256 (addf (shapeCast S512x1
      (multiReduction .add [1] S512 p 0x00000000#32 reduces_S512x384_S512 (.inl rfl) rfl) shapeCasts_S512_S512x1)
      (exp2 (subf s m))) broadcasts_S512x1_S512x256)

theorem neg_inf : Ideal.ofBits FTy.f32 4286578688#32 = ⊥ := by simp [Ideal.ofBits, Ideal.ieee]

theorem stacked_at (y : FVec Ideal S512x384 .f32) (s : FVec Ideal S512x1 .f32) (v : Vec Ideal S1x384x256 .bf16)
    (R : Fin 512) (l : Fin 256) (M : EReal)
    (hM : M = max (Finset.fold max ⊥ (fun x => (y (ix2 R x) : EReal)) Finset.univ) (s (ix2 R 0))) :
    stacked y s v (ix2 R l)
      = Ideal.div (∑ x, Ideal.exp2 (y (ix2 R x) - M) * v (ix3 0 x l))
          (∑ x, Ideal.exp2 (y (ix2 R x) - M) + Ideal.exp2 (s (ix2 R 0) - M)) := by
  pointwise [stacked]
  rw [neg_inf, hM]
  rfl

theorem pay2_eq (m0 m1 m2 m3 : IVec S128x256 1) (a : FVec Ideal S512x384 .f32) (q : FVec Ideal S512x256 .bf16)
    (s : FVec Ideal S512x1 .f32) (k v : Vec Ideal S1x384x256 .bf16) :
    k0_pay2 m0 m1 m2 m3 a q s (k0_pay22 k) v
      = pick m0 m1 m2 m3 (stacked (addf (matmul (φ₂ := .bf16) dot_S512x256_S384x256_S512x384_1_1_0_0_n_n none q
          (shapeCast S384x256 k shapeCasts_S1x384x256_S384x256) (constant S512x384 .f32 0x00000000#32)) a) s v) := rfl

theorem logit_at (a : FVec Ideal S512x384 .f32) (q : FVec Ideal S512x256 .bf16) (k : Vec Ideal S1x384x256 .bf16)
    (R : Fin 512) (t : Fin 384) :
    (addf (matmul (φ₂ := .bf16) dot_S512x256_S384x256_S512x384_1_1_0_0_n_n none q
          (shapeCast S384x256 k shapeCasts_S1x384x256_S384x256) (constant S512x384 .f32 0x00000000#32)) a) (ix2 R t)
      = ∑ x : Fin 256, (q (ix2 R x) : EReal) * k (ix3 0 t x) + a (ix2 R t) := by
  pointwise

/-- A sum over a head's lanes. -/
theorem lane_sum (j : ℕ) (hj : j < 4) (f : Fin 256 → ℝ) :
    ∑ x : Fin 256, (if (x : ℕ) / 64 = j then f x else 0) = ∑ d : Fin 64, f ⟨j * 64 + d, by omega⟩ := by
  refine (Finset.sum_of_injOn (fun d : Fin 64 => (⟨j * 64 + d, by omega⟩ : Fin 256)) ?_ ?_ ?_ ?_).symm
  · intro d _ d' _ h
    have h : j * 64 + (d : ℕ) = j * 64 + d' := congrArg Fin.val h
    exact Fin.ext (by omega)
  · exact fun _ _ => Finset.mem_coe.2 (Finset.mem_univ _)
  · intro x _ hx
    refine if_neg fun h => hx ⟨⟨(x : ℕ) % 64, by omega⟩, Finset.mem_coe.2 (Finset.mem_univ _), Fin.ext ?_⟩
    change j * 64 + (x : ℕ) % 64 = x
    omega
  · intro d _
    dsimp only
    rw [if_pos (by omega)]

/-- What a trip stores for group `g` of heads, at row `i` of its block and lane `l` of the group. -/
theorem group_at (k : Fin k0_t1_loop.trips) (g : ℕ) (hg : g < 4) (w : IVec S512x1 32)
    (hw : ∀ R : Fin 512, w (ix2 R 0) = BitVec.ofNat 32 ((R : ℕ) / 128))
    (q : Vec Ideal S1x128x256 .f32) (kw vw : Vec Ideal S1x384x256 .bf16) (a b c d : Elt Ideal .f32)
    (Q : Fin 2048 → Fin 1024 → ℝ) (K : Fin 2048 → Fin 256 → ℝ) (σ : Fin 16 → ℝ) (V : Fin 2048 → Fin 256 → EReal)
    (hkr : ∀ i : Fin 128, 128 * (k : ℕ) + i < 2048) (hks : ∀ t : Fin 384, start k + t < 2048)
    (hq : ∀ (i : Fin 128) (x : Fin 256), q (ix3 0 i x) = ((Q ⟨128 * k + i, hkr i⟩ ⟨g * 256 + x, by omega⟩ : ℝ) : EReal))
    (hk : ∀ (t : Fin 384) (x : Fin 256), kw (ix3 0 t x) = ((K ⟨start k + t, hks t⟩ ⟨g * 64 + (x : ℕ) % 64, by omega⟩ : ℝ) : EReal))
    (hv : ∀ (t : Fin 384) (x : Fin 256), vw (ix3 0 t x) = V ⟨start k + t, hks t⟩ ⟨g * 64 + (x : ℕ) % 64, by omega⟩)
    (hs : ∀ j : Fin 4, (![(a : EReal), b, c, d] j) = ((σ ⟨g * 4 + j, by omega⟩ : ℝ) : EReal))
    (i : Fin 128) (l : Fin 256) :
    k0_pay2 k0_pay36 k0_pay37 k0_pay38 k0_pay39 (k0_pay3 0#32 1#32 k)
        (k0_pay4 k0_pay36 k0_pay37 k0_pay38 k0_pay39 q) (k0_pay21 w a b c d) (k0_pay22 kw) vw (ix3 0 i l)
      = attn Q K σ V ⟨128 * k + i, hkr i⟩ ⟨g * 256 + l, by omega⟩ := by
  have hk16 := trips_lt k
  rw [pay2_eq, pick_at, stacked_at _ _ _ _ _ _ rfl]
  unfold attn
  have ec : (g * 256 + (l : ℕ)) / 64 * 64 = g * 256 + (l : ℕ) / 64 * 64 := by omega
  refine soft2_core (start k) (by have := hks ⟨383, by omega⟩; dsimp only at this; omega) _ (fun u hu => ?_) _ _ _ _ _ (fun t => ?_) (fun t => ?_) _ _ ?_ rfl
  · unfold near at hu
    dsimp only at hu
    unfold start
    omega
  · rw [logit_at, mask_at]
    have e1 : ((l : ℕ) / 64 * 128 + (i : ℕ)) % 128 = i := by omega
    have e2 : ((l : ℕ) / 64 * 128 + (i : ℕ)) / 128 = (l : ℕ) / 64 := by omega
    have es : ∑ x : Fin 256, ((k0_pay4 k0_pay36 k0_pay37 k0_pay38 k0_pay39 q (ix2 ⟨(l : ℕ) / 64 * 128 + i, by omega⟩ x) : EReal)
          * kw (ix3 0 t x))
        = (((∑ d : Fin 64, Q ⟨128 * k + i, hkr i⟩ ⟨(g * 256 + (l : ℕ)) / 64 * 64 + d, by omega⟩
            * K ⟨start k + t, hks t⟩ ⟨(g * 256 + (l : ℕ)) / 256 * 64 + d, by omega⟩) * 8⁻¹ * (Real.log 2)⁻¹ : ℝ) : EReal) := by
      have : ∀ x : Fin 256, ((k0_pay4 k0_pay36 k0_pay37 k0_pay38 k0_pay39 q (ix2 ⟨(l : ℕ) / 64 * 128 + i, by omega⟩ x) : EReal)
          * kw (ix3 0 t x))
          = ((if (x : ℕ) / 64 = (l : ℕ) / 64 then Q ⟨128 * k + i, hkr i⟩ ⟨g * 256 + x, by omega⟩ * (Real.log 256)⁻¹
              * K ⟨start k + t, hks t⟩ ⟨g * 64 + (x : ℕ) % 64, by omega⟩ else 0 : ℝ) : EReal) := fun x => by
        rw [query_at, hk]
        simp only [e1, e2]
        split
        · rw [hq, ← EReal.coe_mul, ← EReal.coe_mul]
        · rw [zero_mul, EReal.coe_zero]
      rw [Finset.sum_congr rfl fun x _ => this x, ← coe_sum, lane_sum _ (by omega)]
      refine congrArg _ ?_
      have e256 : Real.log 256 = 8 * Real.log 2 := by
        rw [show (256 : ℝ) = 2 ^ 8 by norm_num, Real.log_pow]; norm_num
      rw [e256, Finset.sum_mul, Finset.sum_mul]
      refine Finset.sum_congr rfl fun d _ => ?_
      have i1 : g * 256 + ((l : ℕ) / 64 * 64 + (d : ℕ)) = (g * 256 + (l : ℕ)) / 64 * 64 + d := by omega
      have i2 : g * 64 + ((l : ℕ) / 64 * 64 + (d : ℕ)) % 64 = (g * 256 + (l : ℕ)) / 256 * 64 + d := by omega
      simp only [i1, i2]
      rw [mul_inv]
      ring
    rw [es]
    simp only [e1]
    by_cases h : start k + (t : ℕ) ≤ 128 * k + (i : ℕ) + 128 ∧ 128 * k + (i : ℕ) ≤ start k + t + 128
    · have h' : near ⟨start k + t, hks t⟩ ⟨128 * k + i, hkr i⟩ := h
      rw [if_pos h, if_pos h', add_zero]
    · have h' : ¬ near ⟨start k + t, hks t⟩ ⟨128 * k + i, hkr i⟩ := h
      rw [if_neg h, if_neg h', EReal.add_bot]
  · rw [hv]
    have i2 : g * 64 + (l : ℕ) % 64 = (g * 256 + (l : ℕ)) / 256 * 64 + (g * 256 + (l : ℕ)) % 64 := by omega
    simp only [i2]
  · rw [sink_at w hw, hs, ← EReal.coe_mul]
    have e2 : g * 4 + ((l : ℕ) / 64 * 128 + (i : ℕ)) / 128 = (g * 256 + (l : ℕ)) / 64 := by omega
    simp only [e2]

end Cert.Attn

end
-- ==== Proof.Attn.Block.lean ====
module

public import proofs.«01_k».proof.Proof.Gen.KernelIdeal.Value
public import Idealize.ShloMosaic.Lib.Pipeline.ValueKit
public import Idealize.ShloMosaic.Lib.WholeRead
public import proofs.«01_k».proof.Proof.Attn.Body

/-! # The attention's block of one batch entry

The kernel's sixteen trips store four groups each; together they hold the attention of every
position. The two scratch buffers hold each group's keys and values, once for each of its heads. -/

@[expose] public section

set_option maxRecDepth 16384

noncomputable section

namespace Cert.Attn

open Cert.KernelIdeal Cert.KernelIdeal.Gen Idealize.ShloMosaic
open Idealize.ShloMosaic.TcCoe

section

variable (c : Dev nD) (i : grid0.Coords) (arg1 : Memref sig .tc .smem S16 .f32) (harg1 : arg1.IsWhole) (arg2 : Memref sig .tc .vmem S1x2048x1024 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x128x1024 .f32) (harg5 : arg5.IsWhole) (arg6 : Memref sig .tc .vmem S1x128x4096 .f32) (harg6 : arg6.IsWhole) (arg7 : Memref sig .tc .vmem S1x512x1024 .f32) (harg7 : arg7.IsWhole) (arg8 : Memref sig .tc .vmem S1x2048x1024 .bf16) (harg8 : arg8.IsWhole) (arg9 : Memref sig .tc .vmem S128x1024 .bf16) (harg9 : arg9.IsWhole) (arg10 : Memref sig .tc .vmem S128x4096 .bf16) (harg10 : arg10.IsWhole) (arg11 : Memref sig .tc .vmem S512x1024 .bf16) (harg11 : arg11.IsWhole) (arg12 : Memref sig .tc .vmem S4x2048x256 .bf16) (harg12 : arg12.IsWhole) (arg13 : Memref sig .tc .vmem S4x2048x256 .bf16) (harg13 : arg13.IsWhole)
    (x0 : Vec Ideal S16 .f32) (x1 : Vec Ideal S1x2048x1024 .f32) (x2 : Vec Ideal S1x2048x256 .bf16) (x3 : Vec Ideal S1x2048x256 .bf16) (x4 : Vec Ideal S1x128x1024 .f32) (x5 : Vec Ideal S1x128x4096 .f32) (x6 : Vec Ideal S1x512x1024 .f32)

theorem ix3_ext {a b d : ℕ} {x y : (⟨3, ![a, b, d]⟩ : Shape).Idx} (h0 : (x 0 : ℕ) = y 0) (h1 : (x 1 : ℕ) = y 1)
    (h2 : (x 2 : ℕ) = y 2) : x = y := by
  funext j
  match j with
  | 0 => exact Fin.ext h0
  | 1 => exact Fin.ext h1
  | 2 => exact Fin.ext h2

/-- A lane of a group's four copies of its keys. -/
theorem copies_at (u : Vec Ideal S1x2048x64 .bf16) (t : Fin 2048) (l : Fin 256) :
    k0_pay26 u (ix3 0 t l) = u (ix3 0 t ⟨(l : ℕ) % 64, by omega⟩) := by
  pointwise [k0_pay26]
  split
  · exact congrArg u (ix3_ext rfl rfl (show (l : ℕ) = (l : ℕ) % 64 by omega))
  split
  · exact congrArg u (ix3_ext rfl rfl (show (l : ℕ) - 64 = (l : ℕ) % 64 by omega))
  split
  · exact congrArg u (ix3_ext rfl rfl (show (l : ℕ) - 64 - 64 = (l : ℕ) % 64 by omega))
  · exact congrArg u (ix3_ext rfl rfl (show (l : ℕ) - 64 - 64 - 64 = (l : ℕ) % 64 by omega))

theorem slab_eq {b d : ℕ} (x : (⟨3, ![1, b, d]⟩ : Shape).Idx) : x = ix3 0 (x 1) (x 2) :=
  ix3_ext (by have h : (x 0 : ℕ) < 1 := (x 0).isLt; exact (by omega : (x 0 : ℕ) = 0)) rfl rfl

/-- The scratch that holds the copies of the keys. -/
theorem keys_at (y : S4x2048x256.Idx) :
    View.canon (Val := Elt Ideal) (kernelRun0_A.sl.HS0_4 (F := Ideal) c arg3 harg3 x2) y
      = x2 (ix3 0 (y 1) ⟨(y 0 : ℕ) * 64 + (y 2 : ℕ) % 64, by have h : (y 0 : ℕ) < 4 := (y 0).isLt; omega⟩) := by
  refine View.canon_apply_of_pieces (Val := Elt Ideal) (e := .bf16)
    (fun y : S4x2048x256.Idx => (x2 (ix3 0 (y 1) ⟨(y 0 : ℕ) * 64 + (y 2 : ℕ) % 64, by have h : (y 0 : ℕ) < 4 := (y 0).isLt; omega⟩)))
    _ ?_ y (View.cover_of_tiledL (kernelRun0_A.sl.HS0_4 (F := Ideal) c arg3 harg3 x2) S1x2048x256.size (by sl_kernel_rfl) y)
  intro p hp x
  unfold kernelRun0_A.sl.HS0_4 at hp
  rcases List.mem_cons.1 hp with rfl | hp
  · change S1x2048x256.Idx at x
    obtain ⟨t, l, rfl⟩ : ∃ (t : Fin 2048) (l : Fin 256), x = ix3 0 t l := ⟨x 1, x 2, slab_eq x⟩
    refine (copies_at (View.readAt (Elt Ideal) arg3.view (Rect.unit (s := S1x2048x256) ![0, 0, 192] S1x2048x64.size
      inb_S1x2048x256_S1x2048x64_0_0_192).toLoadRect (harg3.unread x2)) t l).trans (((harg3.readAt_unread x2 _ _).trans (congrArg x2 (ix3_ext (Rect.idx_unit_val _ _ _ _ 0)
      ((Rect.idx_unit_val _ _ _ _ 1).trans (Rect.idx_unit_val _ _ _ _ 1).symm) ?_))))
    refine (Rect.idx_unit_val _ _ _ _ 2).trans (Eq.trans ?_
      (congrArg₂ (fun a b : ℕ => a * 64 + b % 64) (Rect.idx_unit_val (s := S4x2048x256) ![3, 0, 0] S1x2048x256.size inb_S4x2048x256_S1x2048x256_3_0_0 (ix3 0 t l) 0) (Rect.idx_unit_val (s := S4x2048x256) ![3, 0, 0] S1x2048x256.size inb_S4x2048x256_S1x2048x256_3_0_0 (ix3 0 t l) 2)).symm)
    exact (by omega : 192 + (l : ℕ) % 64 = (3 + 0) * 64 + (0 + (l : ℕ)) % 64)
  rcases List.mem_cons.1 hp with rfl | hp
  · change S1x2048x256.Idx at x
    obtain ⟨t, l, rfl⟩ : ∃ (t : Fin 2048) (l : Fin 256), x = ix3 0 t l := ⟨x 1, x 2, slab_eq x⟩
    refine (copies_at _ t l).trans (((harg3.readAt_unread x2 _ _).trans (congrArg x2 (ix3_ext (Rect.idx_unit_val _ _ _ _ 0)
      ((Rect.idx_unit_val _ _ _ _ 1).trans (Rect.idx_unit_val _ _ _ _ 1).symm) ?_))))
    refine (Rect.idx_unit_val _ _ _ _ 2).trans (Eq.trans ?_
      (congrArg₂ (fun a b : ℕ => a * 64 + b % 64) (Rect.idx_unit_val (s := S4x2048x256) ![2, 0, 0] S1x2048x256.size inb_S4x2048x256_S1x2048x256_2_0_0 (ix3 0 t l) 0) (Rect.idx_unit_val (s := S4x2048x256) ![2, 0, 0] S1x2048x256.size inb_S4x2048x256_S1x2048x256_2_0_0 (ix3 0 t l) 2)).symm)
    exact (by omega : 128 + (l : ℕ) % 64 = (2 + 0) * 64 + (0 + (l : ℕ)) % 64)
  rcases List.mem_cons.1 hp with rfl | hp
  · change S1x2048x256.Idx at x
    obtain ⟨t, l, rfl⟩ : ∃ (t : Fin 2048) (l : Fin 256), x = ix3 0 t l := ⟨x 1, x 2, slab_eq x⟩
    refine (copies_at _ t l).trans (((harg3.readAt_unread x2 _ _).trans (congrArg x2 (ix3_ext (Rect.idx_unit_val _ _ _ _ 0)
      ((Rect.idx_unit_val _ _ _ _ 1).trans (Rect.idx_unit_val _ _ _ _ 1).symm) ?_))))
    refine (Rect.idx_unit_val _ _ _ _ 2).trans (Eq.trans ?_
      (congrArg₂ (fun a b : ℕ => a * 64 + b % 64) (Rect.idx_unit_val (s := S4x2048x256) ![1, 0, 0] S1x2048x256.size inb_S4x2048x256_S1x2048x256_1_0_0 (ix3 0 t l) 0) (Rect.idx_unit_val (s := S4x2048x256) ![1, 0, 0] S1x2048x256.size inb_S4x2048x256_S1x2048x256_1_0_0 (ix3 0 t l) 2)).symm)
    exact (by omega : 64 + (l : ℕ) % 64 = (1 + 0) * 64 + (0 + (l : ℕ)) % 64)
  · obtain rfl := List.mem_singleton.1 hp
    change S1x2048x256.Idx at x
    obtain ⟨t, l, rfl⟩ : ∃ (t : Fin 2048) (l : Fin 256), x = ix3 0 t l := ⟨x 1, x 2, slab_eq x⟩
    refine (copies_at _ t l).trans (((harg3.readAt_unread x2 _ _).trans (congrArg x2 (ix3_ext (Rect.idx_unit_val _ _ _ _ 0)
      ((Rect.idx_unit_val _ _ _ _ 1).trans (Rect.idx_unit_val _ _ _ _ 1).symm) ?_))))
    refine (Rect.idx_unit_val _ _ _ _ 2).trans (Eq.trans ?_
      (congrArg₂ (fun a b : ℕ => a * 64 + b % 64) (Rect.idx_unit_val (s := S4x2048x256) ![0, 0, 0] S1x2048x256.size inb_S4x2048x256_S1x2048x256_0_0_0 (ix3 0 t l) 0) (Rect.idx_unit_val (s := S4x2048x256) ![0, 0, 0] S1x2048x256.size inb_S4x2048x256_S1x2048x256_0_0_0 (ix3 0 t l) 2)).symm)
    exact (by omega : 0 + (l : ℕ) % 64 = (0 + 0) * 64 + (0 + (l : ℕ)) % 64)

/-- The scratch that holds the copies of the values. -/
theorem values_at (y : S4x2048x256.Idx) :
    View.canon (Val := Elt Ideal) (kernelRun0_A.sl.HS1_4 (F := Ideal) c arg4 harg4 x3) y
      = x3 (ix3 0 (y 1) ⟨(y 0 : ℕ) * 64 + (y 2 : ℕ) % 64, by have h : (y 0 : ℕ) < 4 := (y 0).isLt; omega⟩) := by
  refine View.canon_apply_of_pieces (Val := Elt Ideal) (e := .bf16)
    (fun y : S4x2048x256.Idx => (x3 (ix3 0 (y 1) ⟨(y 0 : ℕ) * 64 + (y 2 : ℕ) % 64, by have h : (y 0 : ℕ) < 4 := (y 0).isLt; omega⟩)))
    _ ?_ y (View.cover_of_tiledL (kernelRun0_A.sl.HS1_4 (F := Ideal) c arg4 harg4 x3) S1x2048x256.size (by sl_kernel_rfl) y)
  intro p hp x
  unfold kernelRun0_A.sl.HS1_4 at hp
  rcases List.mem_cons.1 hp with rfl | hp
  · change S1x2048x256.Idx at x
    obtain ⟨t, l, rfl⟩ : ∃ (t : Fin 2048) (l : Fin 256), x = ix3 0 t l := ⟨x 1, x 2, slab_eq x⟩
    refine (copies_at (View.readAt (Elt Ideal) arg4.view (Rect.unit (s := S1x2048x256) ![0, 0, 192] S1x2048x64.size
      inb_S1x2048x256_S1x2048x64_0_0_192).toLoadRect (harg4.unread x3)) t l).trans (((harg4.readAt_unread x3 _ _).trans (congrArg x3 (ix3_ext (Rect.idx_unit_val _ _ _ _ 0)
      ((Rect.idx_unit_val _ _ _ _ 1).trans (Rect.idx_unit_val _ _ _ _ 1).symm) ?_))))
    refine (Rect.idx_unit_val _ _ _ _ 2).trans (Eq.trans ?_
      (congrArg₂ (fun a b : ℕ => a * 64 + b % 64) (Rect.idx_unit_val (s := S4x2048x256) ![3, 0, 0] S1x2048x256.size inb_S4x2048x256_S1x2048x256_3_0_0 (ix3 0 t l) 0) (Rect.idx_unit_val (s := S4x2048x256) ![3, 0, 0] S1x2048x256.size inb_S4x2048x256_S1x2048x256_3_0_0 (ix3 0 t l) 2)).symm)
    exact (by omega : 192 + (l : ℕ) % 64 = (3 + 0) * 64 + (0 + (l : ℕ)) % 64)
  rcases List.mem_cons.1 hp with rfl | hp
  · change S1x2048x256.Idx at x
    obtain ⟨t, l, rfl⟩ : ∃ (t : Fin 2048) (l : Fin 256), x = ix3 0 t l := ⟨x 1, x 2, slab_eq x⟩
    refine (copies_at _ t l).trans (((harg4.readAt_unread x3 _ _).trans (congrArg x3 (ix3_ext (Rect.idx_unit_val _ _ _ _ 0)
      ((Rect.idx_unit_val _ _ _ _ 1).trans (Rect.idx_unit_val _ _ _ _ 1).symm) ?_))))
    refine (Rect.idx_unit_val _ _ _ _ 2).trans (Eq.trans ?_
      (congrArg₂ (fun a b : ℕ => a * 64 + b % 64) (Rect.idx_unit_val (s := S4x2048x256) ![2, 0, 0] S1x2048x256.size inb_S4x2048x256_S1x2048x256_2_0_0 (ix3 0 t l) 0) (Rect.idx_unit_val (s := S4x2048x256) ![2, 0, 0] S1x2048x256.size inb_S4x2048x256_S1x2048x256_2_0_0 (ix3 0 t l) 2)).symm)
    exact (by omega : 128 + (l : ℕ) % 64 = (2 + 0) * 64 + (0 + (l : ℕ)) % 64)
  rcases List.mem_cons.1 hp with rfl | hp
  · change S1x2048x256.Idx at x
    obtain ⟨t, l, rfl⟩ : ∃ (t : Fin 2048) (l : Fin 256), x = ix3 0 t l := ⟨x 1, x 2, slab_eq x⟩
    refine (copies_at _ t l).trans (((harg4.readAt_unread x3 _ _).trans (congrArg x3 (ix3_ext (Rect.idx_unit_val _ _ _ _ 0)
      ((Rect.idx_unit_val _ _ _ _ 1).trans (Rect.idx_unit_val _ _ _ _ 1).symm) ?_))))
    refine (Rect.idx_unit_val _ _ _ _ 2).trans (Eq.trans ?_
      (congrArg₂ (fun a b : ℕ => a * 64 + b % 64) (Rect.idx_unit_val (s := S4x2048x256) ![1, 0, 0] S1x2048x256.size inb_S4x2048x256_S1x2048x256_1_0_0 (ix3 0 t l) 0) (Rect.idx_unit_val (s := S4x2048x256) ![1, 0, 0] S1x2048x256.size inb_S4x2048x256_S1x2048x256_1_0_0 (ix3 0 t l) 2)).symm)
    exact (by omega : 64 + (l : ℕ) % 64 = (1 + 0) * 64 + (0 + (l : ℕ)) % 64)
  · obtain rfl := List.mem_singleton.1 hp
    change S1x2048x256.Idx at x
    obtain ⟨t, l, rfl⟩ : ∃ (t : Fin 2048) (l : Fin 256), x = ix3 0 t l := ⟨x 1, x 2, slab_eq x⟩
    refine (copies_at _ t l).trans (((harg4.readAt_unread x3 _ _).trans (congrArg x3 (ix3_ext (Rect.idx_unit_val _ _ _ _ 0)
      ((Rect.idx_unit_val _ _ _ _ 1).trans (Rect.idx_unit_val _ _ _ _ 1).symm) ?_))))
    refine (Rect.idx_unit_val _ _ _ _ 2).trans (Eq.trans ?_
      (congrArg₂ (fun a b : ℕ => a * 64 + b % 64) (Rect.idx_unit_val (s := S4x2048x256) ![0, 0, 0] S1x2048x256.size inb_S4x2048x256_S1x2048x256_0_0_0 (ix3 0 t l) 0) (Rect.idx_unit_val (s := S4x2048x256) ![0, 0, 0] S1x2048x256.size inb_S4x2048x256_S1x2048x256_0_0_0 (ix3 0 t l) 2)).symm)
    exact (by omega : 0 + (l : ℕ) % 64 = (0 + 0) * 64 + (0 + (l : ℕ)) % 64)

/-- A load of a group's queries. -/
theorem query_load (kn g : ℕ) (off : Fin 3 → ℕ) (ho : off = ![0, 128 * kn, 256 * g])
    (inb : ∀ a, off a + S1x128x256.size a ≤ S1x2048x1024.size a) (i : Fin 128) (x : Fin 256)
    (h1 : 128 * kn + i < 2048) (h2 : g * 256 + x < 1024) :
    View.readAt (Elt Ideal) arg2.view (Rect.unit (s := S1x2048x1024) off S1x128x256.size inb).toLoadRect (harg2.unread x1) (ix3 0 i x)
      = x1 (ix3 0 ⟨128 * kn + i, h1⟩ ⟨g * 256 + x, h2⟩) := by
  subst ho
  refine (harg2.readAt_unread x1 _ _).trans (congrArg x1 (ix3_ext (Rect.idx_unit_val _ _ _ _ 0) (Rect.idx_unit_val _ _ _ _ 1)
    ((Rect.idx_unit_val _ _ _ _ 2).trans ?_)))
  exact (by omega : 256 * g + (x : ℕ) = g * 256 + x)

/-- A load of a window of a group's keys. -/
theorem key_load (ks g : ℕ) (off : Fin 3 → ℕ) (ho : off = ![g, ks, 0])
    (inb : ∀ a, off a + S1x384x256.size a ≤ S4x2048x256.size a) (t : Fin 384) (x : Fin 256)
    (h1 : ks + t < 2048) (h2 : g * 64 + (x : ℕ) % 64 < 256) :
    View.readAt (Elt Ideal) arg12.view (Rect.unit (s := S4x2048x256) off S1x384x256.size inb).toLoadRect
        (arg12.view.writes (Elt Ideal) arg12.view.junk (kernelRun0_A.sl.HS0_4 (F := Ideal) c arg3 harg3 x2)) (ix3 0 t x)
      = x2 (ix3 0 ⟨ks + t, h1⟩ ⟨g * 64 + (x : ℕ) % 64, h2⟩) := by
  subst ho
  rw [View.readAt_writes_junk_eq_canon]
  refine (keys_at c arg3 harg3 x2 _).trans (congrArg x2 (ix3_ext rfl (Rect.idx_unit_val _ _ _ _ 1) ?_))
  refine (congrArg₂ (fun a b : ℕ => a * 64 + b % 64) (Rect.idx_unit_val _ _ _ _ 0) (Rect.idx_unit_val _ _ _ _ 2)).trans ?_
  exact (by omega : (g + 0) * 64 + (0 + (x : ℕ)) % 64 = g * 64 + (x : ℕ) % 64)

/-- A load of a window of a group's values. -/
theorem value_load (ks g : ℕ) (off : Fin 3 → ℕ) (ho : off = ![g, ks, 0])
    (inb : ∀ a, off a + S1x384x256.size a ≤ S4x2048x256.size a) (t : Fin 384) (x : Fin 256)
    (h1 : ks + t < 2048) (h2 : g * 64 + (x : ℕ) % 64 < 256) :
    View.readAt (Elt Ideal) arg13.view (Rect.unit (s := S4x2048x256) off S1x384x256.size inb).toLoadRect
        (arg13.view.writes (Elt Ideal) arg13.view.junk (kernelRun0_A.sl.HS1_4 (F := Ideal) c arg4 harg4 x3)) (ix3 0 t x)
      = x3 (ix3 0 ⟨ks + t, h1⟩ ⟨g * 64 + (x : ℕ) % 64, h2⟩) := by
  subst ho
  rw [View.readAt_writes_junk_eq_canon]
  refine (values_at c arg4 harg4 x3 _).trans (congrArg x3 (ix3_ext rfl (Rect.idx_unit_val _ _ _ _ 1) ?_))
  refine (congrArg₂ (fun a b : ℕ => a * 64 + b % 64) (Rect.idx_unit_val _ _ _ _ 0) (Rect.idx_unit_val _ _ _ _ 2)).trans ?_
  exact (by omega : (g + 0) * 64 + (0 + (x : ℕ)) % 64 = g * 64 + (x : ℕ) % 64)

/-- A load of one head's sink. -/
theorem sink_load (j : ℕ) (hj : j < 16) (inb : ∀ a, (![j] : Fin 1 → ℕ) a + S1.size a ≤ S16.size a) (z : S1.Idx) :
    View.readAt (Elt Ideal) arg1.view (Rect.unit (s := S16) ![j] S1.size inb).toLoadRect (harg1.unread x0) z
      = x0 (ix1 ⟨j, hj⟩) := by
  refine (harg1.readAt_unread x0 _ _).trans (congrArg x0 ?_)
  funext a
  obtain rfl : a = 0 := Subsingleton.elim _ _
  refine Fin.ext ((Rect.idx_unit_val _ _ _ _ 0).trans ?_)
  have h : ((z 0 : Fin 1) : ℕ) < 1 := (z 0).isLt
  exact (by omega : j + ((z 0 : Fin 1) : ℕ) = j)

theorem off1_eq (k : Fin k0_t1_loop.trips) : k0_off1 k = ![0, 128 * (k : ℕ), 256 * 0] :=
  (by decide +kernel : ∀ k : Fin k0_t1_loop.trips, k0_off1 k = ![0, 128 * (k : ℕ), 256 * 0]) k
theorem off3_eq (k : Fin k0_t1_loop.trips) : k0_off3 k = ![0, 128 * (k : ℕ), 256 * 1] :=
  (by decide +kernel : ∀ k : Fin k0_t1_loop.trips, k0_off3 k = ![0, 128 * (k : ℕ), 256 * 1]) k
theorem off5_eq (k : Fin k0_t1_loop.trips) : k0_off5 k = ![0, 128 * (k : ℕ), 256 * 2] :=
  (by decide +kernel : ∀ k : Fin k0_t1_loop.trips, k0_off5 k = ![0, 128 * (k : ℕ), 256 * 2]) k
theorem off7_eq (k : Fin k0_t1_loop.trips) : k0_off7 k = ![0, 128 * (k : ℕ), 256 * 3] :=
  (by decide +kernel : ∀ k : Fin k0_t1_loop.trips, k0_off7 k = ![0, 128 * (k : ℕ), 256 * 3]) k
theorem off2_eq (k : Fin k0_t1_loop.trips) : k0_off2 k = ![0, start k, 0] :=
  (by decide +kernel : ∀ k : Fin k0_t1_loop.trips, k0_off2 k = ![0, start k, 0]) k
theorem off4_eq (k : Fin k0_t1_loop.trips) : k0_off4 k = ![1, start k, 0] :=
  (by decide +kernel : ∀ k : Fin k0_t1_loop.trips, k0_off4 k = ![1, start k, 0]) k
theorem off6_eq (k : Fin k0_t1_loop.trips) : k0_off6 k = ![2, start k, 0] :=
  (by decide +kernel : ∀ k : Fin k0_t1_loop.trips, k0_off6 k = ![2, start k, 0]) k
theorem off8_eq (k : Fin k0_t1_loop.trips) : k0_off8 k = ![3, start k, 0] :=
  (by decide +kernel : ∀ k : Fin k0_t1_loop.trips, k0_off8 k = ![3, start k, 0]) k

/-- The row's head, as every trip is handed it. -/
theorem rows_at (R : Fin 512) :
    k0_pay1 kernelRun0_A.sl.v81 128#32 k0_pay40 k0_pay41 1#32 (ix2 R 0) = BitVec.ofNat 32 ((R : ℕ) / 128) :=
  block_at R

/-- Every piece that a trip stores is the attention at the piece's own positions. -/
theorem trip_at (k : Fin k0_t1_loop.trips)
    (Q : Fin 2048 → Fin 1024 → ℝ) (K : Fin 2048 → Fin 256 → ℝ) (σ : Fin 16 → ℝ)
    (hQ : ∀ s x, x1 (ix3 0 s x) = ((Q s x : ℝ) : EReal)) (hK : ∀ s x, x2 (ix3 0 s x) = ((K s x : ℝ) : EReal))
    (hσ : ∀ j, x0 (ix1 j) = ((σ j : ℝ) : EReal)) :
    ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 k0_pay36 k0_pay37 k0_pay38 k0_pay39 kernelRun0_A.sl.v81 128#32 k0_pay40 k0_pay41 1#32 (harg1.unread x0) (harg2.unread x1) (arg12.view.writes (Elt Ideal) arg12.view.junk (kernelRun0_A.sl.HS0_4 c arg3 harg3 x2)) (arg13.view.writes (Elt Ideal) arg13.view.junk (kernelRun0_A.sl.HS1_4 c arg4 harg4 x3)) k,
      ∀ x, p.2 x = attn Q K σ (fun s x => x3 (ix3 0 s x)) ((p.1.emb x) 1) ((p.1.emb x) 2) := by
  have hk16 := trips_lt k
  have hst : start k ≤ 1664 := min_le_left _ _
  intro p hp x
  unfold tripL_k0_t1 trip_k0_t1 at hp
  dsimp only at hp
  rcases List.mem_cons.1 hp with rfl | hp
  · change S1x128x256.Idx at x
    obtain ⟨i', l, rfl⟩ : ∃ (i' : Fin 128) (l : Fin 256), x = ix3 0 i' l := ⟨x 1, x 2, slab_eq x⟩
    have e1 : ((Rect.unit (s := S1x2048x1024) (k0_off7 k) S1x128x256.size (k0_off7_inb k)).emb (ix3 0 i' l)) 1 = (⟨128 * (k : ℕ) + i', by omega⟩ : Fin 2048) :=
      Fin.ext ((Rect.idx_unit_val _ _ _ _ 1).trans (congrArg (· + (i' : ℕ)) (congrFun (off7_eq k) 1)))
    have e2 : ((Rect.unit (s := S1x2048x1024) (k0_off7 k) S1x128x256.size (k0_off7_inb k)).emb (ix3 0 i' l)) 2 = (⟨3 * 256 + l, by omega⟩ : Fin 1024) :=
      Fin.ext ((Rect.idx_unit_val _ _ _ _ 2).trans (congrArg (· + (l : ℕ)) (congrFun (off7_eq k) 2)))
    have key := group_at k 3 (by omega) (k0_pay1 kernelRun0_A.sl.v81 128#32 k0_pay40 k0_pay41 1#32) rows_at
      (View.readAt (Elt Ideal) arg2.view (Rect.unit (s := S1x2048x1024) (k0_off7 k) S1x128x256.size (k0_off7_inb k)).toLoadRect (harg2.unread x1))
      (View.readAt (Elt Ideal) arg12.view (Rect.unit (s := S4x2048x256) (k0_off8 k) S1x384x256.size (k0_off8_inb k)).toLoadRect
        (arg12.view.writes (Elt Ideal) arg12.view.junk (kernelRun0_A.sl.HS0_4 (F := Ideal) c arg3 harg3 x2)))
      (View.readAt (Elt Ideal) arg13.view (Rect.unit (s := S4x2048x256) (k0_off8 k) S1x384x256.size (k0_off8_inb k)).toLoadRect
        (arg13.view.writes (Elt Ideal) arg13.view.junk (kernelRun0_A.sl.HS1_4 (F := Ideal) c arg4 harg4 x3)))
      (View.readAt (Elt Ideal) arg1.view (Rect.unit (s := S16) ![12] S1.size inb_S16_S1_12).toLoadRect (harg1.unread x0) (Shape.Idx.first (s := S1) (by decide))) (View.readAt (Elt Ideal) arg1.view (Rect.unit (s := S16) ![13] S1.size inb_S16_S1_13).toLoadRect (harg1.unread x0) (Shape.Idx.first (s := S1) (by decide))) (View.readAt (Elt Ideal) arg1.view (Rect.unit (s := S16) ![14] S1.size inb_S16_S1_14).toLoadRect (harg1.unread x0) (Shape.Idx.first (s := S1) (by decide))) (View.readAt (Elt Ideal) arg1.view (Rect.unit (s := S16) ![15] S1.size inb_S16_S1_15).toLoadRect (harg1.unread x0) (Shape.Idx.first (s := S1) (by decide)))
      Q K σ (fun s x => x3 (ix3 0 s x)) (fun i => by omega) (fun t => by omega)
      (fun i x => (query_load arg2 harg2 x1 k 3 _ (off7_eq k) _ i x _ _).trans (hQ _ _))
      (fun t x => (key_load c arg3 harg3 arg12 x2 (start k) 3 _ (off8_eq k) _ t x _ _).trans (hK _ _))
      (fun t x => value_load c arg4 harg4 arg13 x3 (start k) 3 _ (off8_eq k) _ t x _ _)
      (fun j => by
        match j with
        | 0 => exact (sink_load arg1 harg1 x0 12 (by omega) _ _).trans (hσ _)
        | 1 => exact (sink_load arg1 harg1 x0 13 (by omega) _ _).trans (hσ _)
        | 2 => exact (sink_load arg1 harg1 x0 14 (by omega) _ _).trans (hσ _)
        | 3 => exact (sink_load arg1 harg1 x0 15 (by omega) _ _).trans (hσ _))
      i' l
    rw [← e1, ← e2] at key
    exact key
  rcases List.mem_cons.1 hp with rfl | hp
  · change S1x128x256.Idx at x
    obtain ⟨i', l, rfl⟩ : ∃ (i' : Fin 128) (l : Fin 256), x = ix3 0 i' l := ⟨x 1, x 2, slab_eq x⟩
    have e1 : ((Rect.unit (s := S1x2048x1024) (k0_off5 k) S1x128x256.size (k0_off5_inb k)).emb (ix3 0 i' l)) 1 = (⟨128 * (k : ℕ) + i', by omega⟩ : Fin 2048) :=
      Fin.ext ((Rect.idx_unit_val _ _ _ _ 1).trans (congrArg (· + (i' : ℕ)) (congrFun (off5_eq k) 1)))
    have e2 : ((Rect.unit (s := S1x2048x1024) (k0_off5 k) S1x128x256.size (k0_off5_inb k)).emb (ix3 0 i' l)) 2 = (⟨2 * 256 + l, by omega⟩ : Fin 1024) :=
      Fin.ext ((Rect.idx_unit_val _ _ _ _ 2).trans (congrArg (· + (l : ℕ)) (congrFun (off5_eq k) 2)))
    have key := group_at k 2 (by omega) (k0_pay1 kernelRun0_A.sl.v81 128#32 k0_pay40 k0_pay41 1#32) rows_at
      (View.readAt (Elt Ideal) arg2.view (Rect.unit (s := S1x2048x1024) (k0_off5 k) S1x128x256.size (k0_off5_inb k)).toLoadRect (harg2.unread x1))
      (View.readAt (Elt Ideal) arg12.view (Rect.unit (s := S4x2048x256) (k0_off6 k) S1x384x256.size (k0_off6_inb k)).toLoadRect
        (arg12.view.writes (Elt Ideal) arg12.view.junk (kernelRun0_A.sl.HS0_4 (F := Ideal) c arg3 harg3 x2)))
      (View.readAt (Elt Ideal) arg13.view (Rect.unit (s := S4x2048x256) (k0_off6 k) S1x384x256.size (k0_off6_inb k)).toLoadRect
        (arg13.view.writes (Elt Ideal) arg13.view.junk (kernelRun0_A.sl.HS1_4 (F := Ideal) c arg4 harg4 x3)))
      (View.readAt (Elt Ideal) arg1.view (Rect.unit (s := S16) ![8] S1.size inb_S16_S1_8).toLoadRect (harg1.unread x0) (Shape.Idx.first (s := S1) (by decide))) (View.readAt (Elt Ideal) arg1.view (Rect.unit (s := S16) ![9] S1.size inb_S16_S1_9).toLoadRect (harg1.unread x0) (Shape.Idx.first (s := S1) (by decide))) (View.readAt (Elt Ideal) arg1.view (Rect.unit (s := S16) ![10] S1.size inb_S16_S1_10).toLoadRect (harg1.unread x0) (Shape.Idx.first (s := S1) (by decide))) (View.readAt (Elt Ideal) arg1.view (Rect.unit (s := S16) ![11] S1.size inb_S16_S1_11).toLoadRect (harg1.unread x0) (Shape.Idx.first (s := S1) (by decide)))
      Q K σ (fun s x => x3 (ix3 0 s x)) (fun i => by omega) (fun t => by omega)
      (fun i x => (query_load arg2 harg2 x1 k 2 _ (off5_eq k) _ i x _ _).trans (hQ _ _))
      (fun t x => (key_load c arg3 harg3 arg12 x2 (start k) 2 _ (off6_eq k) _ t x _ _).trans (hK _ _))
      (fun t x => value_load c arg4 harg4 arg13 x3 (start k) 2 _ (off6_eq k) _ t x _ _)
      (fun j => by
        match j with
        | 0 => exact (sink_load arg1 harg1 x0 8 (by omega) _ _).trans (hσ _)
        | 1 => exact (sink_load arg1 harg1 x0 9 (by omega) _ _).trans (hσ _)
        | 2 => exact (sink_load arg1 harg1 x0 10 (by omega) _ _).trans (hσ _)
        | 3 => exact (sink_load arg1 harg1 x0 11 (by omega) _ _).trans (hσ _))
      i' l
    rw [← e1, ← e2] at key
    exact key
  rcases List.mem_cons.1 hp with rfl | hp
  · change S1x128x256.Idx at x
    obtain ⟨i', l, rfl⟩ : ∃ (i' : Fin 128) (l : Fin 256), x = ix3 0 i' l := ⟨x 1, x 2, slab_eq x⟩
    have e1 : ((Rect.unit (s := S1x2048x1024) (k0_off3 k) S1x128x256.size (k0_off3_inb k)).emb (ix3 0 i' l)) 1 = (⟨128 * (k : ℕ) + i', by omega⟩ : Fin 2048) :=
      Fin.ext ((Rect.idx_unit_val _ _ _ _ 1).trans (congrArg (· + (i' : ℕ)) (congrFun (off3_eq k) 1)))
    have e2 : ((Rect.unit (s := S1x2048x1024) (k0_off3 k) S1x128x256.size (k0_off3_inb k)).emb (ix3 0 i' l)) 2 = (⟨1 * 256 + l, by omega⟩ : Fin 1024) :=
      Fin.ext ((Rect.idx_unit_val _ _ _ _ 2).trans (congrArg (· + (l : ℕ)) (congrFun (off3_eq k) 2)))
    have key := group_at k 1 (by omega) (k0_pay1 kernelRun0_A.sl.v81 128#32 k0_pay40 k0_pay41 1#32) rows_at
      (View.readAt (Elt Ideal) arg2.view (Rect.unit (s := S1x2048x1024) (k0_off3 k) S1x128x256.size (k0_off3_inb k)).toLoadRect (harg2.unread x1))
      (View.readAt (Elt Ideal) arg12.view (Rect.unit (s := S4x2048x256) (k0_off4 k) S1x384x256.size (k0_off4_inb k)).toLoadRect
        (arg12.view.writes (Elt Ideal) arg12.view.junk (kernelRun0_A.sl.HS0_4 (F := Ideal) c arg3 harg3 x2)))
      (View.readAt (Elt Ideal) arg13.view (Rect.unit (s := S4x2048x256) (k0_off4 k) S1x384x256.size (k0_off4_inb k)).toLoadRect
        (arg13.view.writes (Elt Ideal) arg13.view.junk (kernelRun0_A.sl.HS1_4 (F := Ideal) c arg4 harg4 x3)))
      (View.readAt (Elt Ideal) arg1.view (Rect.unit (s := S16) ![4] S1.size inb_S16_S1_4).toLoadRect (harg1.unread x0) (Shape.Idx.first (s := S1) (by decide))) (View.readAt (Elt Ideal) arg1.view (Rect.unit (s := S16) ![5] S1.size inb_S16_S1_5).toLoadRect (harg1.unread x0) (Shape.Idx.first (s := S1) (by decide))) (View.readAt (Elt Ideal) arg1.view (Rect.unit (s := S16) ![6] S1.size inb_S16_S1_6).toLoadRect (harg1.unread x0) (Shape.Idx.first (s := S1) (by decide))) (View.readAt (Elt Ideal) arg1.view (Rect.unit (s := S16) ![7] S1.size inb_S16_S1_7).toLoadRect (harg1.unread x0) (Shape.Idx.first (s := S1) (by decide)))
      Q K σ (fun s x => x3 (ix3 0 s x)) (fun i => by omega) (fun t => by omega)
      (fun i x => (query_load arg2 harg2 x1 k 1 _ (off3_eq k) _ i x _ _).trans (hQ _ _))
      (fun t x => (key_load c arg3 harg3 arg12 x2 (start k) 1 _ (off4_eq k) _ t x _ _).trans (hK _ _))
      (fun t x => value_load c arg4 harg4 arg13 x3 (start k) 1 _ (off4_eq k) _ t x _ _)
      (fun j => by
        match j with
        | 0 => exact (sink_load arg1 harg1 x0 4 (by omega) _ _).trans (hσ _)
        | 1 => exact (sink_load arg1 harg1 x0 5 (by omega) _ _).trans (hσ _)
        | 2 => exact (sink_load arg1 harg1 x0 6 (by omega) _ _).trans (hσ _)
        | 3 => exact (sink_load arg1 harg1 x0 7 (by omega) _ _).trans (hσ _))
      i' l
    rw [← e1, ← e2] at key
    exact key
  · obtain rfl := List.mem_singleton.1 hp
    change S1x128x256.Idx at x
    obtain ⟨i', l, rfl⟩ : ∃ (i' : Fin 128) (l : Fin 256), x = ix3 0 i' l := ⟨x 1, x 2, slab_eq x⟩
    have e1 : ((Rect.unit (s := S1x2048x1024) (k0_off1 k) S1x128x256.size (k0_off1_inb k)).emb (ix3 0 i' l)) 1 = (⟨128 * (k : ℕ) + i', by omega⟩ : Fin 2048) :=
      Fin.ext ((Rect.idx_unit_val _ _ _ _ 1).trans (congrArg (· + (i' : ℕ)) (congrFun (off1_eq k) 1)))
    have e2 : ((Rect.unit (s := S1x2048x1024) (k0_off1 k) S1x128x256.size (k0_off1_inb k)).emb (ix3 0 i' l)) 2 = (⟨0 * 256 + l, by omega⟩ : Fin 1024) :=
      Fin.ext ((Rect.idx_unit_val _ _ _ _ 2).trans (congrArg (· + (l : ℕ)) (congrFun (off1_eq k) 2)))
    have key := group_at k 0 (by omega) (k0_pay1 kernelRun0_A.sl.v81 128#32 k0_pay40 k0_pay41 1#32) rows_at
      (View.readAt (Elt Ideal) arg2.view (Rect.unit (s := S1x2048x1024) (k0_off1 k) S1x128x256.size (k0_off1_inb k)).toLoadRect (harg2.unread x1))
      (View.readAt (Elt Ideal) arg12.view (Rect.unit (s := S4x2048x256) (k0_off2 k) S1x384x256.size (k0_off2_inb k)).toLoadRect
        (arg12.view.writes (Elt Ideal) arg12.view.junk (kernelRun0_A.sl.HS0_4 (F := Ideal) c arg3 harg3 x2)))
      (View.readAt (Elt Ideal) arg13.view (Rect.unit (s := S4x2048x256) (k0_off2 k) S1x384x256.size (k0_off2_inb k)).toLoadRect
        (arg13.view.writes (Elt Ideal) arg13.view.junk (kernelRun0_A.sl.HS1_4 (F := Ideal) c arg4 harg4 x3)))
      (View.readAt (Elt Ideal) arg1.view (Rect.unit (s := S16) ![0] S1.size inb_S16_S1_0).toLoadRect (harg1.unread x0) (Shape.Idx.first (s := S1) (by decide))) (View.readAt (Elt Ideal) arg1.view (Rect.unit (s := S16) ![1] S1.size inb_S16_S1_1).toLoadRect (harg1.unread x0) (Shape.Idx.first (s := S1) (by decide))) (View.readAt (Elt Ideal) arg1.view (Rect.unit (s := S16) ![2] S1.size inb_S16_S1_2).toLoadRect (harg1.unread x0) (Shape.Idx.first (s := S1) (by decide))) (View.readAt (Elt Ideal) arg1.view (Rect.unit (s := S16) ![3] S1.size inb_S16_S1_3).toLoadRect (harg1.unread x0) (Shape.Idx.first (s := S1) (by decide)))
      Q K σ (fun s x => x3 (ix3 0 s x)) (fun i => by omega) (fun t => by omega)
      (fun i x => (query_load arg2 harg2 x1 k 0 _ (off1_eq k) _ i x _ _).trans (hQ _ _))
      (fun t x => (key_load c arg3 harg3 arg12 x2 (start k) 0 _ (off2_eq k) _ t x _ _).trans (hK _ _))
      (fun t x => value_load c arg4 harg4 arg13 x3 (start k) 0 _ (off2_eq k) _ t x _ _)
      (fun j => by
        match j with
        | 0 => exact (sink_load arg1 harg1 x0 0 (by omega) _ _).trans (hσ _)
        | 1 => exact (sink_load arg1 harg1 x0 1 (by omega) _ _).trans (hσ _)
        | 2 => exact (sink_load arg1 harg1 x0 2 (by omega) _ _).trans (hσ _)
        | 3 => exact (sink_load arg1 harg1 x0 3 (by omega) _ _).trans (hσ _))
      i' l
    rw [← e1, ← e2] at key
    exact key

/-- The pieces of the trips before the `n`-th are each some trip's. -/
theorem mem_trips (X1 : BufTy.Contents (Elt Ideal) arg1.view.ty) (X2 : BufTy.Contents (Elt Ideal) arg2.view.ty)
    (X3 : BufTy.Contents (Elt Ideal) arg12.view.ty) (X4 : BufTy.Contents (Elt Ideal) arg13.view.ty) (n : ℕ) (hn : n ≤ k0_t1_loop.trips) :
    ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 k0_pay36 k0_pay37 k0_pay38 k0_pay39 kernelRun0_A.sl.v81 128#32 k0_pay40 k0_pay41 1#32 X1 X2 X3 X4 n,
      ∃ k, p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 k0_pay36 k0_pay37 k0_pay38 k0_pay39 kernelRun0_A.sl.v81 128#32 k0_pay40 k0_pay41 1#32 X1 X2 X3 X4 k := by
  induction n with
  | zero => intro p hp; exact absurd hp (List.not_mem_nil)
  | succ n ih =>
    intro p hp
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 k0_pay36 k0_pay37 k0_pay38 k0_pay39 kernelRun0_A.sl.v81 128#32 k0_pay40 k0_pay41 1#32 X1 X2 X3 X4 ⟨n, hn⟩] at hp
    rcases List.mem_append.1 hp with h | h
    · exact ⟨_, h⟩
    · exact ih (by omega) p h

/-- The block that the kernel leaves for one batch entry is the attention of its queries, keys and values. -/
theorem block_eq (Q : Fin 2048 → Fin 1024 → ℝ) (K : Fin 2048 → Fin 256 → ℝ) (σ : Fin 16 → ℝ)
    (hQ : ∀ s x, x1 (ix3 0 s x) = ((Q s x : ℝ) : EReal)) (hK : ∀ s x, x2 (ix3 0 s x) = ((K s x : ℝ) : EReal))
    (hσ : ∀ j, x0 (ix1 j) = ((σ j : ℝ) : EReal)) (y : S1x2048x1024.Idx) :
    out0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = attn Q K σ (fun s x => x3 (ix3 0 s x)) (y 1) (y 2) := by
  unfold out0_A_7
  rw [View.read_writes_junk_apply_eq_canon]
  refine View.canon_apply_of_pieces (Val := Elt Ideal) (e := .bf16)
    (fun y : S1x2048x1024.Idx => (attn Q K σ (fun s x => x3 (ix3 0 s x)) (y 1) (y 2) : EReal)) _ ?_ y
    (cover0_A_7 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y)
  intro p hp x
  unfold kernelRun0_A at hp
  dsimp only at hp
  obtain ⟨k, hk⟩ := mem_trips c i arg1 harg1 arg2 harg2 arg3 harg3 arg4 harg4 arg5 harg5 arg6 harg6 arg7 harg7 arg8 harg8 arg9 harg9 arg10 harg10 arg11 harg11 arg12 harg12 arg13 harg13 _ _ _ _ _ (by decide +kernel) p hp
  exact trip_at c i arg1 harg1 arg2 harg2 arg3 harg3 arg4 harg4 arg5 harg5 arg6 harg6 arg7 harg7 arg8 harg8 arg9 harg9 arg10 harg10 arg11 harg11 arg12 harg12 arg13 harg13 x0 x1 x2 x3 k Q K σ hQ hK hσ p hk x

end

end Cert.Attn

end
-- ==== Proof.Attn.Casts.lean ====
module

public import proofs.«01_k».proof.Proof.Attn.Block

/-! # The three results that the kernel only rounds -/

@[expose] public section

noncomputable section

namespace Cert.Attn

open Cert.KernelIdeal Cert.KernelIdeal.Gen Idealize.ShloMosaic
open Idealize.ShloMosaic.TcCoe

section

variable (c : Dev nD) (i : grid0.Coords) (arg1 : Memref sig .tc .smem S16 .f32) (harg1 : arg1.IsWhole) (arg2 : Memref sig .tc .vmem S1x2048x1024 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x128x1024 .f32) (harg5 : arg5.IsWhole) (arg6 : Memref sig .tc .vmem S1x128x4096 .f32) (harg6 : arg6.IsWhole) (arg7 : Memref sig .tc .vmem S1x512x1024 .f32) (harg7 : arg7.IsWhole) (arg8 : Memref sig .tc .vmem S1x2048x1024 .bf16) (harg8 : arg8.IsWhole) (arg9 : Memref sig .tc .vmem S128x1024 .bf16) (harg9 : arg9.IsWhole) (arg10 : Memref sig .tc .vmem S128x4096 .bf16) (harg10 : arg10.IsWhole) (arg11 : Memref sig .tc .vmem S512x1024 .bf16) (harg11 : arg11.IsWhole) (arg12 : Memref sig .tc .vmem S4x2048x256 .bf16) (harg12 : arg12.IsWhole) (arg13 : Memref sig .tc .vmem S4x2048x256 .bf16) (harg13 : arg13.IsWhole)
    (x0 : Vec Ideal S16 .f32) (x1 : Vec Ideal S1x2048x1024 .f32) (x2 : Vec Ideal S1x2048x256 .bf16) (x3 : Vec Ideal S1x2048x256 .bf16) (x4 : Vec Ideal S1x128x1024 .f32) (x5 : Vec Ideal S1x128x4096 .f32) (x6 : Vec Ideal S1x512x1024 .f32)

theorem pay23_at (u : Vec Ideal S1x128x1024 .f32) (r : Fin 128) (l : Fin 1024) : k0_pay23 u (ix2 r l) = u (ix3 0 r l) := by
  pointwise [k0_pay23]

/-- A rounded block of weights is the block. -/
theorem cast8_eq (y : S128x1024.Idx) : out0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = x4 (ix3 0 (y 0) (y 1)) := by
  unfold out0_A_8
  rw [View.read_writes_junk_apply_eq_canon]
  refine View.canon_apply_of_pieces (Val := Elt Ideal) (e := .bf16)
    (fun y : S128x1024.Idx => (x4 (ix3 0 (y 0) (y 1)) : EReal)) _ ?_ y
    (cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y)
  intro p hp x
  unfold kernelRun0_A at hp
  dsimp only at hp
  obtain rfl := List.mem_singleton.1 hp
  change S128x1024.Idx at x
  obtain ⟨r, l, rfl⟩ : ∃ (r : Fin 128) (l : Fin 1024), x = ix2 r l := ⟨x 0, x 1, eq_ix2 x⟩
  have e0 : (Rect.emb (Rect.unit (s := S128x1024) ![0, 0] S128x1024.size inb_S128x1024_S128x1024_0_0) (ix2 r l)) 0 = r := Fin.ext ((Rect.idx_unit_val _ _ _ _ 0).trans (Nat.zero_add _))
  have e1 : (Rect.emb (Rect.unit (s := S128x1024) ![0, 0] S128x1024.size inb_S128x1024_S128x1024_0_0) (ix2 r l)) 1 = l := Fin.ext ((Rect.idx_unit_val _ _ _ _ 1).trans (Nat.zero_add _))
  refine (pay23_at _ r l).trans ((harg5.readAt_unread x4 _ _).trans (congrArg x4 (ix3_ext (Rect.idx_unit_val _ _ _ _ 0)
    ((Rect.idx_unit_val _ _ _ _ 1).trans ((Nat.zero_add _).trans (congrArg Fin.val e0.symm)))
    ((Rect.idx_unit_val _ _ _ _ 2).trans ((Nat.zero_add _).trans (congrArg Fin.val e1.symm))))))

theorem pay24_at (u : Vec Ideal S1x128x4096 .f32) (r : Fin 128) (l : Fin 4096) : k0_pay24 u (ix2 r l) = u (ix3 0 r l) := by
  pointwise [k0_pay24]

/-- A rounded block of weights is the block. -/
theorem cast9_eq (y : S128x4096.Idx) : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = x5 (ix3 0 (y 0) (y 1)) := by
  unfold out0_A_9
  rw [View.read_writes_junk_apply_eq_canon]
  refine View.canon_apply_of_pieces (Val := Elt Ideal) (e := .bf16)
    (fun y : S128x4096.Idx => (x5 (ix3 0 (y 0) (y 1)) : EReal)) _ ?_ y
    (cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y)
  intro p hp x
  unfold kernelRun0_A at hp
  dsimp only at hp
  obtain rfl := List.mem_singleton.1 hp
  change S128x4096.Idx at x
  obtain ⟨r, l, rfl⟩ : ∃ (r : Fin 128) (l : Fin 4096), x = ix2 r l := ⟨x 0, x 1, eq_ix2 x⟩
  have e0 : (Rect.emb (Rect.unit (s := S128x4096) ![0, 0] S128x4096.size inb_S128x4096_S128x4096_0_0) (ix2 r l)) 0 = r := Fin.ext ((Rect.idx_unit_val _ _ _ _ 0).trans (Nat.zero_add _))
  have e1 : (Rect.emb (Rect.unit (s := S128x4096) ![0, 0] S128x4096.size inb_S128x4096_S128x4096_0_0) (ix2 r l)) 1 = l := Fin.ext ((Rect.idx_unit_val _ _ _ _ 1).trans (Nat.zero_add _))
  refine (pay24_at _ r l).trans ((harg6.readAt_unread x5 _ _).trans (congrArg x5 (ix3_ext (Rect.idx_unit_val _ _ _ _ 0)
    ((Rect.idx_unit_val _ _ _ _ 1).trans ((Nat.zero_add _).trans (congrArg Fin.val e0.symm)))
    ((Rect.idx_unit_val _ _ _ _ 2).trans ((Nat.zero_add _).trans (congrArg Fin.val e1.symm))))))

theorem pay25_at (u : Vec Ideal S1x512x1024 .f32) (r : Fin 512) (l : Fin 1024) : k0_pay25 u (ix2 r l) = u (ix3 0 r l) := by
  pointwise [k0_pay25]

/-- A rounded block of weights is the block. -/
theorem cast10_eq (y : S512x1024.Idx) : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y = x6 (ix3 0 (y 0) (y 1)) := by
  unfold out0_A_10
  rw [View.read_writes_junk_apply_eq_canon]
  refine View.canon_apply_of_pieces (Val := Elt Ideal) (e := .bf16)
    (fun y : S512x1024.Idx => (x6 (ix3 0 (y 0) (y 1)) : EReal)) _ ?_ y
    (cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 y)
  intro p hp x
  unfold kernelRun0_A at hp
  dsimp only at hp
  obtain rfl := List.mem_singleton.1 hp
  change S512x1024.Idx at x
  obtain ⟨r, l, rfl⟩ : ∃ (r : Fin 512) (l : Fin 1024), x = ix2 r l := ⟨x 0, x 1, eq_ix2 x⟩
  have e0 : (Rect.emb (Rect.unit (s := S512x1024) ![0, 0] S512x1024.size inb_S512x1024_S512x1024_0_0) (ix2 r l)) 0 = r := Fin.ext ((Rect.idx_unit_val _ _ _ _ 0).trans (Nat.zero_add _))
  have e1 : (Rect.emb (Rect.unit (s := S512x1024) ![0, 0] S512x1024.size inb_S512x1024_S512x1024_0_0) (ix2 r l)) 1 = l := Fin.ext ((Rect.idx_unit_val _ _ _ _ 1).trans (Nat.zero_add _))
  refine (pay25_at _ r l).trans ((harg7.readAt_unread x6 _ _).trans (congrArg x6 (ix3_ext (Rect.idx_unit_val _ _ _ _ 0)
    ((Rect.idx_unit_val _ _ _ _ 1).trans ((Nat.zero_add _).trans (congrArg Fin.val e0.symm)))
    ((Rect.idx_unit_val _ _ _ _ 2).trans ((Nat.zero_add _).trans (congrArg Fin.val e1.symm))))))

end

end Cert.Attn

end
-- ==== Proof.Attn.Stages.lean ====
module

public import proofs.«01_k».proof.Proof.Gen.ReferenceIdeal
public import proofs.«01_k».proof.Proof.Attn.Math
public import Idealize.ShloMosaic.Lib.Pointwise

/-! # The plain attention in stages -/

@[expose] public section

noncomputable section

namespace Cert.Attn

open Cert.ReferenceIdeal Cert.ReferenceIdeal.Gen Idealize.ShloMosaic Idealize.ShloMosaic.TcCoe

/-- Keys or values with a block of zeros before and after, cut into blocks. -/
def padded (x : FVec Ideal S8x2048x4x64 .f32) : FVec Ideal S8x18x128x4x64 .f32 :=
  shapeCast S8x18x128x4x64 (pad S8x2304x4x64 ![0, 128, 0, 0] ![0, 128, 0, 0] ![0, 0, 0, 0] x (sitofp (F := Ideal) .f32 (constantI S_ 32 0#32)) pads_S8x2048x4x64_S8x2304x4x64_000_1281280_000_000 h_S_) shapeCasts_S8x2304x4x64_S8x18x128x4x64

/-- The three blocks that each block of queries may look at. -/
def band (x : FVec Ideal S8x2048x4x64 .f32) : FVec Ideal S8x16x384x4x64 .f32 :=
  concatenate S8x16x384x4x64 2 [⟨S8x16x128x4x64, ((extractStridedSlice S8x16x128x4x64 ![0, 0, 0, 0, 0] (padded x) slices_S8x18x128x4x64_S8x16x128x4x64_0_0_0_0_0) : FVec Ideal S8x16x128x4x64 .f32)⟩, ⟨S8x16x128x4x64, ((extractStridedSlice S8x16x128x4x64 ![0, 1, 0, 0, 0] (padded x) slices_S8x18x128x4x64_S8x16x128x4x64_0_1_0_0_0) : FVec Ideal S8x16x128x4x64 .f32)⟩, ⟨S8x16x128x4x64, ((extractStridedSlice S8x16x128x4x64 ![0, 2, 0, 0, 0] (padded x) slices_S8x18x128x4x64_S8x16x128x4x64_0_2_0_0_0) : FVec Ideal S8x16x128x4x64 .f32)⟩] concatenates_S8x16x128x4x64_S8x16x128x4x64_S8x16x128x4x64_S8x16x384x4x64_d2

/-- The positions of the keys in a window. -/
def kpos : IVec S16x384 32 :=
  addi (broadcastInDim S16x384 ![0, 1] bcast_S16x1_S16x384_0_1 (subi (muli (broadcastInDim S16x1 ![0] bcast_S16_S16x1_0 (iotaInDim S16 32 0)) (broadcastInDim S16x1 ![] bcast_S_S16x1 (constantI S_ 32 128#32))) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0)))

/-- The positions of a block's queries. -/
def qpos : IVec S16x128 32 :=
  addi (broadcastInDim S16x128 ![0, 1] bcast_S16x1_S16x128_0_1 (muli (broadcastInDim S16x1 ![0] bcast_S16_S16x1_0 (iotaInDim S16 32 0)) (broadcastInDim S16x1 ![] bcast_S_S16x1 (constantI S_ 32 128#32)))) (broadcastInDim S16x128 ![0, 1] bcast_S1x128_S16x128_0_1 (broadcastInDim S1x128 ![1] bcast_S128_S1x128_1 (iotaInDim S128 32 0)))

/-- Which keys a query may see. -/
def valid : IVec S16x128x384 1 :=
  andi (andi (cmpi .sle (absi (subi (broadcastInDim S16x128x384 ![0, 1, 2] bcast_S16x1x384_S16x128x384_0_1_2 (broadcastInDim S16x1x384 ![0, 2] bcast_S16x384_S16x1x384_0_2 kpos)) (broadcastInDim S16x128x384 ![0, 1, 2] bcast_S16x128x1_S16x128x384_0_1_2 (broadcastInDim S16x128x1 ![0, 1] bcast_S16x128_S16x128x1_0_1 qpos)))) (broadcastInDim S16x128x384 ![] bcast_S_S16x128x384 (constantI S_ 32 128#32))) (broadcastInDim S16x128x384 ![0, 1, 2] bcast_S16x1x384_S16x128x384_0_1_2 (cmpi .sge (broadcastInDim S16x1x384 ![0, 2] bcast_S16x384_S16x1x384_0_2 kpos) (broadcastInDim S16x1x384 ![] bcast_S_S16x1x384 (constantI S_ 32 0#32))))) (broadcastInDim S16x128x384 ![0, 1, 2] bcast_S16x1x384_S16x128x384_0_1_2 (cmpi .slt (broadcastInDim S16x1x384 ![0, 2] bcast_S16x384_S16x1x384_0_2 kpos) (broadcastInDim S16x1x384 ![] bcast_S_S16x1x384 (constantI S_ 32 2048#32))))

/-- The scaled products of queries and keys. -/
def logits (Q : FVec Ideal S8x2048x16x64 .f32) (K : FVec Ideal S8x2048x4x64 .f32) : FVec Ideal S8x16x4x4x128x384 .f32 :=
  mulf (transpose S8x16x4x4x128x384 [0, 1, 2, 5, 4, 3] (Host.dotGeneral (F := Ideal) (φ₁ := .f32) (φ₂ := .f32) dot_S8x16x384x4x64_S8x16x128x4x4x64_S8x16x4x384x128x4_4_5_2_24_013_013 none (band K) (shapeCast S8x16x128x4x4x64 Q shapeCasts_S8x2048x16x64_S8x16x128x4x4x64)) transposes_S8x16x4x384x128x4_S8x16x4x4x128x384_0_1_2_5_4_3) (broadcastInDim S8x16x4x4x128x384 ![] bcast_S_S8x16x4x4x128x384 (constant (F := Ideal) S_ .f32 0x3E000000#32))

/-- The logits under the mask, with the sink's behind them. -/
def full (Q : FVec Ideal S8x2048x16x64 .f32) (K : FVec Ideal S8x2048x4x64 .f32) (SK : FVec Ideal S16 .f32) : FVec Ideal S8x16x4x4x128x385 .f32 :=
  concatenate S8x16x4x4x128x385 5 [⟨S8x16x4x4x128x384, (select (broadcastInDim S8x16x4x4x128x384 ![0, 1, 2, 3, 4, 5] bcast_S1x16x1x1x128x384_S8x16x4x4x128x384_0_1_2_3_4_5 (broadcastInDim S1x16x1x1x128x384 ![1, 4, 5] bcast_S16x128x384_S1x16x1x1x128x384_1_4_5 valid)) (logits Q K) (broadcastInDim S8x16x4x4x128x384 ![] bcast_S_S8x16x4x4x128x384 (id (constant (F := Ideal) S_ .f32 0xFF800000#32) : FVec Ideal S_ .f32)))⟩, ⟨S8x16x4x4x128x1, (broadcastInDim S8x16x4x4x128x1 ![0, 1, 2, 3, 4, 5] bcast_S1x1x4x4x1x1_S8x16x4x4x128x1_0_1_2_3_4_5 (shapeCast S1x1x4x4x1x1 SK shapeCasts_S16_S1x1x4x4x1x1))⟩] concatenates_S8x16x4x4x128x384_S8x16x4x4x128x1_S8x16x4x4x128x385_d5

/-- The greatest logit of a query. -/
def top (X : FVec Ideal S8x16x4x4x128x385 .f32) : FVec Ideal S8x16x4x4x128 .f32 :=
  maximumf (broadcastInDim S8x16x4x4x128 ![] bcast_S_S8x16x4x4x128 (constant (F := Ideal) S_ .f32 0xFF800000#32)) (Host.reduce FloatOps.maximumf X (constant (F := Ideal) S_ .f32 0xFF800000#32) reducesTo_S8x16x4x4x128x385_S8x16x4x4x128_d5 h_S_)

/-- The exponentials of the logits less the greatest. -/
def expo (X : FVec Ideal S8x16x4x4x128x385 .f32) : FVec Ideal S8x16x4x4x128x385 .f32 :=
  Host.exp (subf X (broadcastInDim S8x16x4x4x128x385 ![0, 1, 2, 3, 4, 5] bcast_S8x16x4x4x128x1_S8x16x4x4x128x385_0_1_2_3_4_5 (broadcastInDim S8x16x4x4x128x1 ![0, 1, 2, 3, 4] bcast_S8x16x4x4x128_S8x16x4x4x128x1_0_1_2_3_4 (top X))))

/-- The weights. -/
def probs (X : FVec Ideal S8x16x4x4x128x385 .f32) : FVec Ideal S8x16x4x4x128x385 .f32 :=
  Host.divf (expo X) (broadcastInDim S8x16x4x4x128x385 ![0, 1, 2, 3, 4, 5] bcast_S8x16x4x4x128x1_S8x16x4x4x128x385_0_1_2_3_4_5 (broadcastInDim S8x16x4x4x128x1 ![0, 1, 2, 3, 4] bcast_S8x16x4x4x128_S8x16x4x4x128x1_0_1_2_3_4 (Host.reduceAdd (expo X) (constant (F := Ideal) S_ .f32 0x00000000#32) reducesTo_S8x16x4x4x128x385_S8x16x4x4x128_d5 h_S_)))

/-- The plain attention. -/
def plain (Q : FVec Ideal S8x2048x16x64 .f32) (K VV : FVec Ideal S8x2048x4x64 .f32) (SK : FVec Ideal S16 .f32) : FVec Ideal S8x2048x1024 .bf16 :=
  truncf .bf16 (shapeCast S8x2048x1024 (transpose S8x16x128x4x4x64 [0, 1, 5, 2, 4, 3] (Host.dotGeneral (F := Ideal) (φ₁ := .f32) (φ₂ := .f32) dot_S8x16x384x4x64_S8x16x4x4x128x384_S8x16x4x64x4x128_2_5_4_34_013_012 none (band VV) (extractStridedSlice S8x16x4x4x128x384 ![0, 0, 0, 0, 0, 0] (probs (full Q K SK)) slices_S8x16x4x4x128x385_S8x16x4x4x128x384_0_0_0_0_0_0)) transposes_S8x16x4x64x4x128_S8x16x128x4x4x64_0_1_5_2_4_3) shapeCasts_S8x16x128x4x4x64_S8x2048x1024) bitsLt_bf16_f32

end Cert.Attn

end
-- ==== Proof.Attn.Ref.lean ====
module

public import proofs.«01_k».proof.Proof.Attn.Stages
public import proofs.«01_k».proof.Proof.Attn.Math
public import Idealize.ShloMosaic.Lib.Pointwise

/-! # The plain attention at an index -/

@[expose] public section

noncomputable section

namespace Cert.Attn

open Cert.ReferenceIdeal Cert.ReferenceIdeal.Gen Idealize.ShloMosaic Idealize.ShloMosaic.TcCoe

theorem word_sle (x y : BitVec 32) : IntOp.cmpi CmpIPredicate.sle x y = if x.toInt ≤ y.toInt then 1#1 else 0#1 := by
  simp only [IntOp.cmpi, BitVec.sle_eq_decide]
  by_cases h : x.toInt ≤ y.toInt <;> simp [h]

theorem word_sge (x y : BitVec 32) : IntOp.cmpi CmpIPredicate.sge x y = if y.toInt ≤ x.toInt then 1#1 else 0#1 := by
  simp only [IntOp.cmpi, BitVec.sle_eq_decide]
  by_cases h : y.toInt ≤ x.toInt <;> simp [h]

theorem word_slt (x y : BitVec 32) : IntOp.cmpi CmpIPredicate.slt x y = if x.toInt < y.toInt then 1#1 else 0#1 := by
  simp only [IntOp.cmpi, BitVec.slt_eq_decide]
  by_cases h : x.toInt < y.toInt <;> simp [h]

theorem word_abs (x : BitVec 32) (hx : -4096 ≤ x.toInt) : (IntOp.absi x).toInt = if x.toInt < 0 then -x.toInt else x.toInt := by
  have h4 := BitVec.toInt_lt (x := x)
  have hn : (-x).toInt = -x.toInt := by
    rw [BitVec.toInt_neg]; exact Int.bmod_eq_of_le (by omega) (by omega)
  unfold IntOp.absi
  rw [BitVec.msb_eq_toInt]
  by_cases h : x.toInt < 0 <;> simp [h, hn]

theorem kpos_at (n : Fin 16) (t : Fin 384) : (kpos (ix2 n t)).toInt = 128 * ((n : ℕ) : ℤ) - 128 + ((t : ℕ) : ℤ) := by
  have e : kpos (ix2 n t) = IntOp.addi (IntOp.subi (IntOp.muli (BitVec.ofNat 32 n) 128#32) 128#32) (BitVec.ofNat 32 t) := by
    pointwise [kpos]
  rw [e]
  unfold IntOp.addi IntOp.subi IntOp.muli
  have h1 : (BitVec.ofNat 32 (n : ℕ) * 128#32) = BitVec.ofNat 32 ((n : ℕ) * 128) := by
    rw [BitVec.ofNat_mul]
  have h2 : (BitVec.ofNat 32 ((n : ℕ) * 128)).toInt = (((n : ℕ) * 128 : ℕ) : ℤ) := by
    rw [BitVec.toInt_ofNat']; exact Int.bmod_eq_of_le (by omega) (by omega)
  have h3 : (BitVec.ofNat 32 (t : ℕ)).toInt = ((t : ℕ) : ℤ) := by
    rw [BitVec.toInt_ofNat']; exact Int.bmod_eq_of_le (by omega) (by omega)
  have h4 : (BitVec.ofNat 32 ((n : ℕ) * 128) - 128#32).toInt = (((n : ℕ) * 128 : ℕ) : ℤ) - 128 := by
    rw [BitVec.toInt_sub, h2]; exact Int.bmod_eq_of_le (by change _ ≤ _ - (128 : ℤ); omega) (by change _ - (128 : ℤ) < _; omega)
  rw [h1, BitVec.toInt_add, h4, h3, Int.bmod_eq_of_le (by omega) (by omega)]
  omega

theorem qpos_at (n : Fin 16) (t : Fin 128) : (qpos (ix2 n t)).toInt = 128 * ((n : ℕ) : ℤ) + ((t : ℕ) : ℤ) := by
  have e : qpos (ix2 n t) = IntOp.addi (IntOp.muli (BitVec.ofNat 32 n) 128#32) (BitVec.ofNat 32 t) := by
    pointwise [qpos]
  rw [e]
  unfold IntOp.addi IntOp.muli
  have h1 : (BitVec.ofNat 32 (n : ℕ) * 128#32) = BitVec.ofNat 32 ((n : ℕ) * 128) := by
    rw [BitVec.ofNat_mul]
  rw [h1, ← BitVec.ofNat_add, BitVec.toInt_ofNat', Int.bmod_eq_of_le (by omega) (by omega)]
  push_cast
  omega

theorem valid_at (n : Fin 16) (i : Fin 128) (t : Fin 384) : valid (ix3 n i t)
    = if (128 ≤ 128 * (n : ℕ) + t ∧ 128 * (n : ℕ) + t < 2176) ∧ ((i : ℕ) ≤ t ∧ (t : ℕ) ≤ i + 256) then 1#1 else 0#1 := by
  have e : valid (ix3 n i t) = IntOp.andi (IntOp.andi (IntOp.cmpi .sle (IntOp.absi (IntOp.subi (kpos (ix2 n t)) (qpos (ix2 n i)))) 128#32)
      (IntOp.cmpi .sge (kpos (ix2 n t)) 0#32)) (IntOp.cmpi .slt (kpos (ix2 n t)) 2048#32) := by
    pointwise [valid]
  have hk := kpos_at n t
  have hq := qpos_at n i
  have hs : (IntOp.subi (kpos (ix2 n t)) (qpos (ix2 n i))).toInt = ((t : ℕ) : ℤ) - 128 - ((i : ℕ) : ℤ) := by
    unfold IntOp.subi
    rw [BitVec.toInt_sub, hk, hq, Int.bmod_eq_of_le (by omega) (by omega)]
    omega
  rw [e, word_sle, word_sge, word_slt, word_abs _ (by omega), hs, hk]
  have c1 : (128#32).toInt = 128 := by decide
  have c2 : (0#32).toInt = 0 := by decide
  have c3 : (2048#32).toInt = 2048 := by decide
  rw [c1, c2, c3]
  have i1 : ((if ((t : ℕ) : ℤ) - 128 - ((i : ℕ) : ℤ) < 0 then -(((t : ℕ) : ℤ) - 128 - ((i : ℕ) : ℤ)) else ((t : ℕ) : ℤ) - 128 - ((i : ℕ) : ℤ)) ≤ 128)
      ↔ ((i : ℕ) ≤ t ∧ (t : ℕ) ≤ i + 256) := by split <;> omega
  have i2 : (0 ≤ 128 * ((n : ℕ) : ℤ) - 128 + ((t : ℕ) : ℤ)) ↔ 128 ≤ 128 * (n : ℕ) + t := by omega
  have i3 : (128 * ((n : ℕ) : ℤ) - 128 + ((t : ℕ) : ℤ) < 2048) ↔ 128 * (n : ℕ) + t < 2176 := by omega
  simp only [i1, i2, i3]
  by_cases b1 : ((i : ℕ) ≤ t ∧ (t : ℕ) ≤ i + 256) <;> by_cases b2 : 128 ≤ 128 * (n : ℕ) + t <;> by_cases b3 : 128 * (n : ℕ) + t < 2176 <;>
    simp only [b1, b2, b3, and_self, and_true, true_and, and_false, false_and, if_true, if_false] <;> rfl

theorem band_at (x : FVec Ideal S8x2048x4x64 .f32) (b : Fin 8) (n : Fin 16) (t : Fin 384) (g : Fin 4) (d : Fin 64) (u : Fin 2048)
    (h : 128 * (n : ℕ) + t = u + 128) : band x (ix5 b n t g d) = x (ix4 b u g d) := by
  pointwise [band, padded]
  split
  · rw [dif_pos ⟨by omega, by omega⟩]
    exact congrArg (fun w => x (ix4 b w g d)) (Fin.ext (by dsimp only; omega))
  split
  · rw [dif_pos ⟨by omega, by omega⟩]
    exact congrArg (fun w => x (ix4 b w g d)) (Fin.ext (by dsimp only; omega))
  · rw [dif_pos ⟨by omega, by omega⟩]
    exact congrArg (fun w => x (ix4 b w g d)) (Fin.ext (by dsimp only; omega))

theorem logits_at (Q : FVec Ideal S8x2048x16x64 .f32) (K : FVec Ideal S8x2048x4x64 .f32)
   (b : Fin 8) (n : Fin 16) (g j : Fin 4) (i : Fin 128) (t : Fin 384) :
    logits Q K (ix6 b n g j i t) = (∑ d : Fin 64, (band K (ix5 b n t g d) : EReal) * Q (ix4 b ⟨128 * n + i, by omega⟩ ⟨4 * g + j, by omega⟩ d)) * Ideal.ofBits .f32 0x3E000000#32 := by
  pointwise [logits]
  simp only [mul_comm (n : ℕ) 128, mul_comm (g : ℕ) 4]

theorem full_at (Q : FVec Ideal S8x2048x16x64 .f32) (K : FVec Ideal S8x2048x4x64 .f32) (SK : FVec Ideal S16 .f32)
   (b : Fin 8) (n : Fin 16) (g j : Fin 4) (i : Fin 128) (t : Fin 385) :
    full Q K SK (ix6 b n g j i t) = if h : (t : ℕ) < 384 then Scalar.select (valid (ix3 n i ⟨t, h⟩)) (logits Q K (ix6 b n g j i ⟨t, h⟩)) (Ideal.ofBits .f32 0xFF800000#32) else SK (ix1 ⟨4 * g + j, by omega⟩) := by
  pointwise [full]
  split
  · rfl
  · exact congrArg (fun w => SK (ix1 w)) (Fin.ext (by dsimp only; omega))

/-- The greatest of a row and another number, of any shape. -/
theorem reduce_max {s t u : Shape} {a : Fin s.rank} (A : FVec Ideal t .f32) (X : FVec Ideal s .f32) (init : FVec Ideal u .f32)
    (h' : s.ReducesTo [a] t) (h : s.Reduces [a] t) (hu : 0 < u.numel) (j : t.Idx) (z : EReal) (hA : A j = z)
    (hz : init (Shape.Idx.first hu) = z) (f : Fin (s.size a) → EReal) (hf : ∀ k, X (h.lift j k) = f k) :
    (maximumf A (Host.reduce (FloatOps.maximumf (F := Ideal) (φ := .f32)) X init h' hu) j : EReal)
      = max z (Finset.fold max z f Finset.univ) := by
  have e := Host.reduce_eq_fold_single (α := EReal) max X init h' h hu j
  rw [hz, show X ∘ h.lift j = f from funext hf] at e
  exact congrArg₂ max hA e

/-- The last axis put back. -/
theorem last_axis (h : Shape.Reduces S8x16x4x4x128x385 [5] S8x16x4x4x128) (b : Fin 8) (n : Fin 16) (g j : Fin 4) (i : Fin 128) (t : Fin 385) :
    h.lift (ix5 b n g j i) t = ix6 b n g j i t := by
  funext a
  match a with
  | 0 => rfl
  | 1 => rfl
  | 2 => rfl
  | 3 => rfl
  | 4 => rfl
  | 5 => rfl

theorem top_at (X : FVec Ideal S8x16x4x4x128x385 .f32) (b : Fin 8) (n : Fin 16) (g j : Fin 4) (i : Fin 128) :
    top X (ix5 b n g j i) = max (Ideal.ofBits .f32 0xFF800000#32) (Finset.fold max (Ideal.ofBits .f32 0xFF800000#32) (fun t : Fin 385 => (X (ix6 b n g j i t) : EReal)) Finset.univ) := by
  have h : Shape.Reduces S8x16x4x4x128x385 [5] S8x16x4x4x128 := by decide
  unfold top
  exact reduce_max _ X _ _ h _ _ _ (by pointwise) (by pointwise) _ fun t => congrArg X (last_axis h b n g j i t)

theorem expo_at (X : FVec Ideal S8x16x4x4x128x385 .f32) (b : Fin 8) (n : Fin 16) (g j : Fin 4) (i : Fin 128) (t : Fin 385) :
    expo X (ix6 b n g j i t) = Ideal.exp (X (ix6 b n g j i t) - top X (ix5 b n g j i)) := by
  pointwise [expo]

theorem probs_at (X : FVec Ideal S8x16x4x4x128x385 .f32) (b : Fin 8) (n : Fin 16) (g j : Fin 4) (i : Fin 128) (t : Fin 385) :
    probs X (ix6 b n g j i t) = Ideal.div (expo X (ix6 b n g j i t)) (∑ u : Fin 385, (expo X (ix6 b n g j i u) : EReal)) := by
  have h : Shape.Reduces S8x16x4x4x128x385 [5] S8x16x4x4x128 := by decide
  pointwise [probs]
  refine congrArg (Ideal.div _) ((Ideal.hostReduceAdd_single _ h (expo X) 0 (ix5 b n g j i)).trans ((zero_add _).trans ?_))
  exact Finset.sum_congr rfl fun t _ => congrArg (expo X) (last_axis h b n g j i t)

theorem plain_at (Q : FVec Ideal S8x2048x16x64 .f32) (K V : FVec Ideal S8x2048x4x64 .f32) (SK : FVec Ideal S16 .f32)
   (b : Fin 8) (s : Fin 2048) (c : Fin 1024) :
    plain Q K V SK (ix3 b s c) = ∑ t : Fin 384, (band V (ix5 b ⟨(s : ℕ) / 128, by omega⟩ t ⟨(c : ℕ) / 256, by omega⟩ ⟨(c : ℕ) % 64, by omega⟩) : EReal)
      * probs (full Q K SK) (ix6 b ⟨(s : ℕ) / 128, by omega⟩ ⟨(c : ℕ) / 256, by omega⟩ ⟨(c : ℕ) / 64 % 4, by omega⟩ ⟨(s : ℕ) % 128, by omega⟩ ⟨t, by omega⟩) := by
  pointwise [plain]

theorem eighth : Ideal.ofBits FTy.f32 0x3E000000#32 = ((8⁻¹ : ℝ) : EReal) := by
  simp [Ideal.ofBits, Ideal.ieee]
  rw [← EReal.coe_mul]
  norm_num

theorem minus_inf : Ideal.ofBits FTy.f32 0xFF800000#32 = ⊥ := by simp [Ideal.ofBits, Ideal.ieee]

/-- A visible logit is a real number. -/
theorem logit_real (Q : FVec Ideal S8x2048x16x64 .f32) (K : FVec Ideal S8x2048x4x64 .f32) (b : Fin 8)
    (q : Fin 2048 → Fin 1024 → ℝ) (k : Fin 2048 → Fin 256 → ℝ)
    (hq : ∀ s h d, Q (ix4 b s h d) = ((q s ⟨(h : ℕ) * 64 + d, by omega⟩ : ℝ) : EReal))
    (hk : ∀ u g d, K (ix4 b u g d) = ((k u ⟨(g : ℕ) * 64 + d, by omega⟩ : ℝ) : EReal))
    (s u : Fin 2048) (c : Fin 1024) (t : Fin 384) (h : 128 * ((s : ℕ) / 128) + t = u + 128) :
    logits Q K (ix6 b ⟨(s : ℕ) / 128, by omega⟩ ⟨(c : ℕ) / 256, by omega⟩ ⟨(c : ℕ) / 64 % 4, by omega⟩ ⟨(s : ℕ) % 128, by omega⟩ t)
      = (((∑ d : Fin 64, q s ⟨(c : ℕ) / 64 * 64 + d, by omega⟩ * k u ⟨(c : ℕ) / 256 * 64 + d, by omega⟩) * 8⁻¹ : ℝ) : EReal) := by
  rw [logits_at, eighth, EReal.coe_mul, coe_sum]
  refine congrArg (· * ((8⁻¹ : ℝ) : EReal)) (Finset.sum_congr rfl fun d _ => ?_)
  rw [band_at K b _ t _ d u h, hq, hk, ← EReal.coe_mul, mul_comm]
  have e1 : (⟨128 * ((s : ℕ) / 128) + (s : ℕ) % 128, by omega⟩ : Fin 2048) = s := Fin.ext (by dsimp only; omega)
  have e2 : (⟨(4 * ((c : ℕ) / 256) + (c : ℕ) / 64 % 4) * 64 + (d : ℕ), by omega⟩ : Fin 1024) = ⟨(c : ℕ) / 64 * 64 + d, by omega⟩ :=
    Fin.ext (by dsimp only; omega)
  exact congrArg (fun r : ℝ => (r : EReal)) (congrArg₂ (· * ·) (congrArg₂ q e1 e2) rfl)

/-- The plain attention of finite queries, keys and sinks. -/
theorem plain_attn (Q : FVec Ideal S8x2048x16x64 .f32) (K V : FVec Ideal S8x2048x4x64 .f32) (SK : FVec Ideal S16 .f32) (b : Fin 8)
    (q : Fin 2048 → Fin 1024 → ℝ) (k : Fin 2048 → Fin 256 → ℝ) (σ : Fin 16 → ℝ)
    (hq : ∀ s h d, Q (ix4 b s h d) = ((q s ⟨(h : ℕ) * 64 + d, by omega⟩ : ℝ) : EReal))
    (hk : ∀ u g d, K (ix4 b u g d) = ((k u ⟨(g : ℕ) * 64 + d, by omega⟩ : ℝ) : EReal))
    (hs : ∀ h, SK (ix1 h) = ((σ h : ℝ) : EReal)) (s : Fin 2048) (c : Fin 1024) :
    plain Q K V SK (ix3 b s c)
      = attn q k σ (fun u x => V (ix4 b u ⟨(x : ℕ) / 64, by omega⟩ ⟨(x : ℕ) % 64, by omega⟩)) s c := by
  rw [plain_at]
  simp only [probs_at, expo_at]
  unfold attn
  refine soft1_core (128 * ((s : ℕ) / 128)) s ?_ _ _ _
    (fun t => full Q K SK (ix6 b ⟨(s : ℕ) / 128, by omega⟩ ⟨(c : ℕ) / 256, by omega⟩ ⟨(c : ℕ) / 64 % 4, by omega⟩ ⟨(s : ℕ) % 128, by omega⟩ t))
    (fun t => band V (ix5 b ⟨(s : ℕ) / 128, by omega⟩ t ⟨(c : ℕ) / 256, by omega⟩ ⟨(c : ℕ) % 64, by omega⟩)) ?_ ?_ ?_
    (top (full Q K SK) (ix5 b ⟨(s : ℕ) / 128, by omega⟩ ⟨(c : ℕ) / 256, by omega⟩ ⟨(c : ℕ) / 64 % 4, by omega⟩ ⟨(s : ℕ) % 128, by omega⟩)) ?_
  · intro u hu
    unfold near at hu
    omega
  · intro t
    try dsimp only
    rw [full_at, dif_pos t.isLt, valid_at, minus_inf]
    by_cases h : 128 ≤ 128 * ((s : ℕ) / 128) + t ∧ 128 * ((s : ℕ) / 128) + t < 2176
    · rw [dif_pos h]
      by_cases h2 : ((s : ℕ) % 128 ≤ t ∧ (t : ℕ) ≤ (s : ℕ) % 128 + 256)
      · have h3 : near ⟨128 * ((s : ℕ) / 128) + t - 128, by omega⟩ s := by
          unfold near; dsimp only; omega
        rw [if_pos ⟨h, h2⟩, if_pos h3]
        exact logit_real Q K b q k hq hk s _ c t (by dsimp only; omega)
      · have h3 : ¬ near ⟨128 * ((s : ℕ) / 128) + t - 128, by omega⟩ s := by
          unfold near; dsimp only; omega
        rw [if_neg fun h' => h2 h'.2, if_neg h3]
        rfl
    · rw [dif_neg h, if_neg fun h' => h h'.1]
      rfl
  · rw [full_at, dif_neg (by dsimp only; omega), hs]
    exact congrArg (fun w => ((σ w : ℝ) : EReal)) (Fin.ext (by dsimp only; omega))
  · intro t h
    dsimp only
    rw [band_at V b _ t _ _ ⟨128 * ((s : ℕ) / 128) + t - 128, by omega⟩ (by dsimp only; omega)]
    refine congrArg₂ (fun x y => V (ix4 b _ x y)) (Fin.ext ?_) (Fin.ext ?_) <;> (try dsimp only) <;> omega
  · rw [top_at, minus_inf]

end Cert.Attn

end
-- ==== Proof.Attn.Value.lean ====
module

public import proofs.«01_k».proof.Proof.Attn.Casts
public import proofs.«01_k».proof.Proof.Attn.Ref
public import Idealize.ShloMosaic.Lib.Claim

/-! # The attention kernel's result arrays -/

@[expose] public section

set_option maxRecDepth 16384

noncomputable section

namespace Cert.Attn

open Cert.KernelIdeal Cert.KernelIdeal.Gen Idealize.ShloMosaic Idealize.SL.Sem

variable (m : (ℓ : Loc nD τ sig) → Buf (Elt Ideal) ℓ) (c : Dev nD)

/-- Where each window's block lies at a grid point. -/
theorem idx (t : Fin cfg0.N) : win0_0.index t = ![0] ∧ win0_1.index t = ![t.val, 0, 0] ∧ win0_2.index t = ![t.val, 0, 0]
    ∧ win0_3.index t = ![t.val, 0, 0] ∧ win0_4.index t = ![0, t.val, 0] ∧ win0_5.index t = ![1, t.val, 0] ∧ win0_6.index t = ![1, t.val, 0]
    ∧ win0_7.index t = ![t.val, 0, 0] ∧ win0_8.index t = ![t.val, 0] ∧ win0_9.index t = ![t.val, 0] ∧ win0_10.index t = ![t.val, 0] :=
  (by decide +kernel : ∀ t : Fin grid0.N, win0_0.index t = ![0] ∧ win0_1.index t = ![t.val, 0, 0] ∧ win0_2.index t = ![t.val, 0, 0]
    ∧ win0_3.index t = ![t.val, 0, 0] ∧ win0_4.index t = ![0, t.val, 0] ∧ win0_5.index t = ![1, t.val, 0] ∧ win0_6.index t = ![1, t.val, 0]
    ∧ win0_7.index t = ![t.val, 0, 0] ∧ win0_8.index t = ![t.val, 0] ∧ win0_9.index t = ![t.val, 0] ∧ win0_10.index t = ![t.val, 0]) t

theorem in0 (t : Fin cfg0.N) (j : Fin 16) : iblk m c 0 t (ix1 j) = m ((c.tc : Thread nD τ).loc main_arg3) (ix1 j) := by
  obtain ⟨e0, e1, e2, e3, e4, e5, e6, e7, e8, e9, e10⟩ := idx t
  blk_ext [iblk, V, e0]

theorem in1 (t : Fin cfg0.N) (s : Fin 2048) (x : Fin 1024) : iblk m c 1 t (ix3 0 s x)
    = m ((c.tc : Thread nD τ).loc main_arg0) (ix4 ⟨t.val, t.isLt⟩ s ⟨(x : ℕ) / 64, by omega⟩ ⟨(x : ℕ) % 64, by omega⟩) := by
  obtain ⟨e0, e1, e2, e3, e4, e5, e6, e7, e8, e9, e10⟩ := idx t
  have ht : t.val < 8 := t.isLt
  blk_ext! [iblk, V, e1]

theorem in2 (t : Fin cfg0.N) (s : Fin 2048) (x : Fin 256) : iblk m c 2 t (ix3 0 s x)
    = m ((c.tc : Thread nD τ).loc main_arg1) (ix4 ⟨t.val, t.isLt⟩ s ⟨(x : ℕ) / 64, by omega⟩ ⟨(x : ℕ) % 64, by omega⟩) := by
  obtain ⟨e0, e1, e2, e3, e4, e5, e6, e7, e8, e9, e10⟩ := idx t
  have ht : t.val < 8 := t.isLt
  blk_simp [iblk]
  entry_read
  pointwise
  blk_ext [e2]

theorem in3 (t : Fin cfg0.N) (s : Fin 2048) (x : Fin 256) : iblk m c 3 t (ix3 0 s x)
    = m ((c.tc : Thread nD τ).loc main_arg2) (ix4 ⟨t.val, t.isLt⟩ s ⟨(x : ℕ) / 64, by omega⟩ ⟨(x : ℕ) % 64, by omega⟩) := by
  obtain ⟨e0, e1, e2, e3, e4, e5, e6, e7, e8, e9, e10⟩ := idx t
  have ht : t.val < 8 := t.isLt
  blk_simp [iblk]
  entry_read
  pointwise
  blk_ext [e3]

theorem in4 (t : Fin cfg0.N) (r : Fin 128) (x : Fin 1024) (h : t.val * 128 + r < 1024) : iblk m c 4 t (ix3 0 r x)
    = m ((c.tc : Thread nD τ).loc main_arg4) (ix3 0 ⟨t.val * 128 + r, h⟩ x) := by
  obtain ⟨e0, e1, e2, e3, e4, e5, e6, e7, e8, e9, e10⟩ := idx t
  blk_ext [iblk, V, e4]

theorem in5 (t : Fin cfg0.N) (r : Fin 128) (x : Fin 4096) (h : t.val * 128 + r < 1024) : iblk m c 5 t (ix3 0 r x)
    = m ((c.tc : Thread nD τ).loc main_arg5) (ix3 1 ⟨t.val * 128 + r, h⟩ x) := by
  obtain ⟨e0, e1, e2, e3, e4, e5, e6, e7, e8, e9, e10⟩ := idx t
  blk_ext [iblk, V, e5]

theorem in6 (t : Fin cfg0.N) (r : Fin 512) (x : Fin 1024) (h : t.val * 512 + r < 4096) : iblk m c 6 t (ix3 0 r x)
    = m ((c.tc : Thread nD τ).loc main_arg6) (ix3 1 ⟨t.val * 512 + r, h⟩ x) := by
  obtain ⟨e0, e1, e2, e3, e4, e5, e6, e7, e8, e9, e10⟩ := idx t
  blk_ext [iblk, V, e6]

theorem out8 (t : Fin cfg0.N) (y : S128x1024.Idx) : (outsAt0 m c t).2.1 y = iblk m c 4 t (ix3 0 (y 0) (y 1)) := by
  simp only [outsAt0]
  rw [cast8_eq]

theorem out9 (t : Fin cfg0.N) (y : S128x4096.Idx) : (outsAt0 m c t).2.2.1 y = iblk m c 5 t (ix3 0 (y 0) (y 1)) := by
  simp only [outsAt0]
  rw [cast9_eq]

theorem out10 (t : Fin cfg0.N) (y : S512x1024.Idx) : (outsAt0 m c t).2.2.2 y = iblk m c 6 t (ix3 0 (y 0) (y 1)) := by
  simp only [outsAt0]
  rw [cast10_eq]

/-- Under real scores the first result is the plain attention. -/
theorem arr7 (hq : ∀ i, ((EReal.toReal (m ((c.tc : Thread nD τ).loc main_arg0) i) : ℝ) : EReal) = m ((c.tc : Thread nD τ).loc main_arg0) i)
    (hk : ∀ i, ((EReal.toReal (m ((c.tc : Thread nD τ).loc main_arg1) i) : ℝ) : EReal) = m ((c.tc : Thread nD τ).loc main_arg1) i)
    (hs : ∀ i, ((EReal.toReal (m ((c.tc : Thread nD τ).loc main_arg3) i) : ℝ) : EReal) = m ((c.tc : Thread nD τ).loc main_arg3) i) :
    (dats m 0 c).arrAt 7 cfg0.N = plain (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 7 _ (by decide +kernel) fun t hf y => ?_
  blk_simp
  rw [after0_7]
  have ht : t.val < 8 := t.isLt
  refine Eq.trans (block_eq c _ _ _ _ _ _ _ _ _ _ _ _ _ _ _ _ _ _ _ _ _ _ _ _ _ _ _ _ _ _ _ _ _ _
    (fun s x => EReal.toReal (m ((c.tc : Thread nD τ).loc main_arg0) (ix4 ⟨t.val, t.isLt⟩ s ⟨(x : ℕ) / 64, by omega⟩ ⟨(x : ℕ) % 64, by omega⟩)))
    (fun s x => EReal.toReal (m ((c.tc : Thread nD τ).loc main_arg1) (ix4 ⟨t.val, t.isLt⟩ s ⟨(x : ℕ) / 64, by omega⟩ ⟨(x : ℕ) % 64, by omega⟩)))
    (fun j => EReal.toReal (m ((c.tc : Thread nD τ).loc main_arg3) (ix1 j)))
    (fun s x => (in1 m c t s x).trans (hq _).symm) (fun s x => (in2 m c t s x).trans (hk _).symm) (fun j => (in0 m c t j).trans (hs _).symm) y) ?_
  simp only [in3]
  obtain ⟨e0, e1, e2, e3, e4, e5, e6, e7, e8, e9, e10⟩ := idx t
  have hy : (y 0).val < 1 := (y 0).isLt
  have p0 : ((((cfg0.win 7).blk t).view.emb y) 0 : ℕ) = t.val := by blk_simp [e7]
  have p1 : ((((cfg0.win 7).blk t).view.emb y) 1 : ℕ) = (y 1).val := by blk_simp [e7]
  have p2 : ((((cfg0.win 7).blk t).view.emb y) 2 : ℕ) = (y 2).val := by blk_simp [e7]
  have h : ((cfg0.win 7).blk t).view.emb y = ix3 (⟨t.val, t.isLt⟩ : Fin 8) (⟨(y 1).val, (y 1).isLt⟩ : Fin 2048) (⟨(y 2).val, (y 2).isLt⟩ : Fin 1024) :=
    ix3_ext p0 p1 p2
  rw [h]
  refine (plain_attn _ _ _ _ ⟨t.val, t.isLt⟩ _ _ _ ?_ ?_ ?_ _ _).symm
  · intro s h d
    refine (hq _).symm.trans ?_
    have a : ((h : ℕ) * 64 + d) / 64 = h := by omega
    have b : ((h : ℕ) * 64 + d) % 64 = d := by omega
    simp only [a, b]
  · intro s h d
    refine (hk _).symm.trans ?_
    have a : ((h : ℕ) * 64 + d) / 64 = h := by omega
    have b : ((h : ℕ) * 64 + d) % 64 = d := by omega
    simp only [a, b]
  · exact fun h => (hs _).symm

/-- One layer of the weights, as a matrix. -/
def mat8 (w : FVec Ideal S1x1024x1024 .f32) : FVec Ideal S1024x1024 .bf16 := fun i => w (ix3 0 (i 0) (i 1))

theorem arr8 : (dats m 0 c).arrAt 8 cfg0.N = mat8 (m ((c.tc : Thread nD τ).loc main_arg4)) := by
  refine (dats m 0 c).arrAt_eq_of_covers 8 _ (by decide +kernel) fun t hf y => ?_
  blk_simp
  rw [after0_8, out8]
  obtain ⟨e0, e1, e2, e3, e4, e5, e6, e7, e8, e9, e10⟩ := idx t
  have ht : t.val < 8 := t.isLt
  have hy : (y 0).val < 128 := (y 0).isLt
  have p0 : ((((cfg0.win 8).blk t).view.emb y) 0 : ℕ) = t.val * 128 + (y 0).val := by blk_simp [e8]
  have p1 : ((((cfg0.win 8).blk t).view.emb y) 1 : ℕ) = (y 1).val := by blk_simp [e8]
  have h : ((cfg0.win 8).blk t).view.emb y = ix2 (⟨t.val * 128 + (y 0).val, by omega⟩ : Fin 1024) (⟨(y 1).val, (y 1).isLt⟩ : Fin 1024) := by
    funext a
    match a with
    | 0 => exact Fin.ext p0
    | 1 => exact Fin.ext p1
  rw [h]
  exact in4 m c t ⟨(y 0).val, hy⟩ ⟨(y 1).val, (y 1).isLt⟩ (by omega)

/-- One layer of the weights, as a matrix. -/
def mat9 (w : FVec Ideal S2x1024x4096 .f32) : FVec Ideal S1024x4096 .bf16 := fun i => w (ix3 1 (i 0) (i 1))

theorem arr9 : (dats m 0 c).arrAt 9 cfg0.N = mat9 (m ((c.tc : Thread nD τ).loc main_arg5)) := by
  refine (dats m 0 c).arrAt_eq_of_covers 9 _ (by decide +kernel) fun t hf y => ?_
  blk_simp
  rw [after0_9, out9]
  obtain ⟨e0, e1, e2, e3, e4, e5, e6, e7, e8, e9, e10⟩ := idx t
  have ht : t.val < 8 := t.isLt
  have hy : (y 0).val < 128 := (y 0).isLt
  have p0 : ((((cfg0.win 9).blk t).view.emb y) 0 : ℕ) = t.val * 128 + (y 0).val := by blk_simp [e9]
  have p1 : ((((cfg0.win 9).blk t).view.emb y) 1 : ℕ) = (y 1).val := by blk_simp [e9]
  have h : ((cfg0.win 9).blk t).view.emb y = ix2 (⟨t.val * 128 + (y 0).val, by omega⟩ : Fin 1024) (⟨(y 1).val, (y 1).isLt⟩ : Fin 4096) := by
    funext a
    match a with
    | 0 => exact Fin.ext p0
    | 1 => exact Fin.ext p1
  rw [h]
  exact in5 m c t ⟨(y 0).val, hy⟩ ⟨(y 1).val, (y 1).isLt⟩ (by omega)

/-- One layer of the weights, as a matrix. -/
def mat10 (w : FVec Ideal S2x4096x1024 .f32) : FVec Ideal S4096x1024 .bf16 := fun i => w (ix3 1 (i 0) (i 1))

theorem arr10 : (dats m 0 c).arrAt 10 cfg0.N = mat10 (m ((c.tc : Thread nD τ).loc main_arg6)) := by
  refine (dats m 0 c).arrAt_eq_of_covers 10 _ (by decide +kernel) fun t hf y => ?_
  blk_simp
  rw [after0_10, out10]
  obtain ⟨e0, e1, e2, e3, e4, e5, e6, e7, e8, e9, e10⟩ := idx t
  have ht : t.val < 8 := t.isLt
  have hy : (y 0).val < 512 := (y 0).isLt
  have p0 : ((((cfg0.win 10).blk t).view.emb y) 0 : ℕ) = t.val * 512 + (y 0).val := by blk_simp [e10]
  have p1 : ((((cfg0.win 10).blk t).view.emb y) 1 : ℕ) = (y 1).val := by blk_simp [e10]
  have h : ((cfg0.win 10).blk t).view.emb y = ix2 (⟨t.val * 512 + (y 0).val, by omega⟩ : Fin 4096) (⟨(y 1).val, (y 1).isLt⟩ : Fin 1024) := by
    funext a
    match a with
    | 0 => exact Fin.ext p0
    | 1 => exact Fin.ext p1
  rw [h]
  exact in6 m c t ⟨(y 0).val, hy⟩ ⟨(y 1).val, (y 1).isLt⟩ (by omega)

end Cert.Attn

end
-- ==== Proof.Attn.Plain.lean ====
module

public import proofs.«01_k».proof.Proof.Gen.ReferenceIdeal.Run
public import proofs.«01_k».proof.Proof.Attn.Stages

/-! # The plain program's first result is the plain attention -/

@[expose] public section

noncomputable section

namespace Cert.Attn

open Cert.ReferenceIdeal Cert.ReferenceIdeal.Gen Idealize.ShloMosaic Idealize.ShloMosaic.TcCoe

theorem plain_eq (m : (ℓ : Loc nD τ sig) → Buf (Elt Ideal) ℓ) (c : Dev nD) :
    Cert.ReferenceIdeal.Value.res_main_v75 m c = plain (m ((c.tc : Thread nD τ).loc main_arg0)) (m ((c.tc : Thread nD τ).loc main_arg1))
      (m ((c.tc : Thread nD τ).loc main_arg2)) (m ((c.tc : Thread nD τ).loc main_arg3)) := by
  unfold Cert.ReferenceIdeal.Value.res_main_v75 plain probs expo top full logits valid qpos kpos band padded
  rfl

end Cert.Attn

end
-- ==== Proof.Attn.Pre.lean ====
module

public import proofs.«01_k».proof.Defs
public import Idealize.ShloMosaic.Lib.ReduceAll
public import Idealize.ShloMosaic.Lib.Pointwise

/-! # What the precondition says of the arrays -/

@[expose] public section

noncomputable section

namespace Cert.Attn

open Idealize.ShloMosaic Cert.Pre_finite_scores

/-- The shape facts that the precondition takes. -/
theorem scores_facts : Cert.Pre_finite_scores.Facts where
  bcast_S_S8x2048x16x64 := by decide
  reducesTo_S8x2048x16x64_S_d0_1_2_3 := by decide
  h_S_ := by decide
  bcast_S_S8x2048x4x64 := by decide
  reducesTo_S8x2048x4x64_S_d0_1_2_3 := by decide
  bcast_S_S16 := by decide
  reducesTo_S16_S_d0 := by decide

theorem plus_inf : Ideal.ofBits FTy.f32 0x7F800000#32 = ⊤ := by simp [Ideal.ofBits, Ideal.ieee]

/-- A number whose size is below infinity is real. -/
theorem real_of_lt (x : EReal) (h : (FloatOps.cmpf (F := Ideal) (φ := .f32) CmpFPredicate.olt (FloatOps.hostAbsf (F := Ideal) (φ := .f32) x) (Ideal.ofBits FTy.f32 0x7F800000#32)) = 1#1) :
    ((EReal.toReal x : ℝ) : EReal) = x := by
  rw [plus_inf] at h
  refine EReal.coe_toReal ?_ ?_
  · rintro rfl
    change Ideal.cmp .olt (max ⊤ (-⊤)) ⊤ = 1#1 at h
    simp [Ideal.cmp] at h
  · rintro rfl
    change Ideal.cmp .olt (max ⊥ (-⊥)) ⊤ = 1#1 at h
    simp [Ideal.cmp] at h

theorem and_one : ∀ a b : BitVec 1, IntOp.andi a b = 1#1 → a = 1#1 ∧ b = 1#1 := by decide

instance : Subsingleton S_.Idx := ⟨fun _ _ => funext fun i => i.elim0⟩

/-- Under the precondition the queries, the keys and the sinks are real numbers. -/
theorem scores_real [Cert.Pre_finite_scores.Facts] (q : FVec Ideal S8x2048x16x64 .f32) (k v : FVec Ideal S8x2048x4x64 .f32) (s : FVec Ideal S16 .f32)
    (w1 : FVec Ideal S1x1024x1024 .f32) (w2 : FVec Ideal S2x1024x4096 .f32) (w3 : FVec Ideal S2x4096x1024 .f32)
    (h : fn (F := Ideal) q k v s w1 w2 w3 = fun _ => 1#1) :
    (∀ i, ((EReal.toReal (q i) : ℝ) : EReal) = q i) ∧ (∀ i, ((EReal.toReal (k i) : ℝ) : EReal) = k i)
      ∧ (∀ i, ((EReal.toReal (s i) : ℝ) : EReal) = s i) := by
  have h0 := congrFun h (fun i => i.elim0)
  unfold fn at h0
  dsimp only at h0
  obtain ⟨h1, h2⟩ := and_one _ _ h0
  obtain ⟨h3, h4⟩ := and_one _ _ h1
  refine ⟨fun i => real_of_lt _ ?_, fun i => real_of_lt _ ?_, fun i => real_of_lt _ ?_⟩
  · exact Host.reduce_andi_all _ _ _ _ _ h3 i
  · exact Host.reduce_andi_all _ _ _ _ _ h4 i
  · exact Host.reduce_andi_all _ _ _ _ _ h2 i

end Cert.Attn

end
-- ==== Proof.Attn.Claim.lean ====
module

public import proofs.«01_k».proof.Defs
public import proofs.«01_k».proof.Proof.Attn.Value
public import proofs.«01_k».proof.Proof.Attn.Plain
public import proofs.«01_k».proof.Proof.Attn.Pre

/-! # The attention's claim -/

@[expose] public section

noncomputable section

namespace Cert.Attn

open Idealize.ShloMosaic Idealize.SL.Sem

section

open Cert.ReferenceIdeal Cert.ReferenceIdeal.Gen

theorem mat8_eq (w : FVec Ideal S1x1024x1024 .f32) :
    truncf .bf16 (shapeCast S1024x1024 w shapeCasts_S1x1024x1024_S1024x1024) bitsLt_bf16_f32 = mat8 w := by
  funext y
  pointwise [mat8]

theorem mat9_eq (w : FVec Ideal S2x1024x4096 .f32) :
    truncf .bf16 (shapeCast S1024x4096 (extractStridedSlice S1x1024x4096 ![1, 0, 0] w slices_S2x1024x4096_S1x1024x4096_1_0_0)
      shapeCasts_S1x1024x4096_S1024x4096) bitsLt_bf16_f32 = mat9 w := by
  funext y
  pointwise [mat9]

theorem mat10_eq (w : FVec Ideal S2x4096x1024 .f32) :
    truncf .bf16 (shapeCast S4096x1024 (extractStridedSlice S1x4096x1024 ![1, 0, 0] w slices_S2x4096x1024_S1x4096x1024_1_0_0)
      shapeCasts_S1x4096x1024_S4096x1024) bitsLt_bf16_f32 = mat10 w := by
  funext y
  pointwise [mat10]

end

/-- With real queries, keys and sinks the kernel and the plain attention end with the same four arrays. -/
theorem equal : Cert.algebraic_KernelIdeal_ReferenceIdeal_pre_finite_scores (hKernelIdeal := Cert.KernelIdeal.Gen.facts)
    (hReferenceIdeal := Cert.ReferenceIdeal.Gen.facts) (hPre_finite_scores := scores_facts) := by
  pair_intro
  · run_from Cert.KernelIdeal.Value.run_blocks m g
  · run_from Cert.ReferenceIdeal.Value.run m' g'
    · obtain ⟨h0, h1, h2, h3, h4, h5, h6⟩ := hagree c
      obtain ⟨hq, hk, hs⟩ := @scores_real scores_facts _ _ _ _ _ _ _ (hpre c)
      rw [plain_eq, h0, h1, h2, h3]
      exact (arr7 m c hq hk hs).symm
    · exact (mat8_eq _).trans (arr8 m c).symm
    · exact (mat9_eq _).trans (arr9 m c).symm
    · exact (mat10_eq _).trans (arr10 m c).symm

end Cert.Attn

end
-- ==== Proof.Rope.Spec.lean ====
module

public import proofs.«01_k».proof.Proof.Tail.Spec

/-! # The projection with rotary positions, one token at a time

A token's row is normalised and multiplied by the joined weight of queries, keys and values; then
the first 16 positions of each head of 64 are turned by the token's angles. -/

@[expose] public section

noncomputable section

namespace Cert.Rope

open Idealize.ShloMosaic

/-- A column of the projection of a normalised row. -/
def proj (e : EReal) (x g : Fin 1024 → EReal) (w : Fin 1024 → Fin 1536 → EReal) (n : Fin 1536) : EReal :=
  ∑ k, Tail.rms e x g k * w k n

/-- A column, the one 8 to its right and the one 8 to its left within its 128, each times its table's entry. -/
def colrot (a b c : Fin 128 → EReal) (P : Fin 1536 → EReal) (n : Fin 1536) : EReal :=
  P n * a ⟨(n : ℕ) % 128, by omega⟩
    + P ⟨128 * ((n : ℕ) / 128) + ((n : ℕ) % 128 + 8) % 128, by omega⟩ * b ⟨(n : ℕ) % 128, by omega⟩
    + P ⟨128 * ((n : ℕ) / 128) + ((n : ℕ) % 128 + 120) % 128, by omega⟩ * c ⟨(n : ℕ) % 128, by omega⟩

/-- A column after its head's first 16 positions are turned: `C` and `S` are the cosines and sines of the 8 angles. -/
def turn (C S : Fin 8 → EReal) (P : Fin 1536 → EReal) (n : Fin 1536) : EReal :=
  if h : (n : ℕ) % 64 < 8 then P n * C ⟨(n : ℕ) % 64, h⟩ - P ⟨(n : ℕ) + 8, by omega⟩ * S ⟨(n : ℕ) % 64, h⟩
  else if h' : (n : ℕ) % 64 < 16 then
    P n * C ⟨(n : ℕ) % 64 - 8, by omega⟩ + P ⟨(n : ℕ) - 8, by omega⟩ * S ⟨(n : ℕ) % 64 - 8, by omega⟩
  else P n

/-- With cosines and ones in the first table, negated sines and zeros in the second, zeros and sines in the third, the
columns are those of the turned heads. -/
theorem colrot_turn (a b c : Fin 128 → EReal) (C S : Fin 8 → EReal) (P : Fin 1536 → EReal)
    (ha : ∀ l : Fin 128, a l = if h : (l : ℕ) % 64 < 8 then C ⟨(l : ℕ) % 64, h⟩
      else if h' : (l : ℕ) % 64 < 16 then C ⟨(l : ℕ) % 64 - 8, by omega⟩ else 1)
    (hb : ∀ l : Fin 128, b l = if h : (l : ℕ) % 64 < 8 then - S ⟨(l : ℕ) % 64, h⟩ else 0)
    (hc : ∀ l : Fin 128, c l = if (l : ℕ) % 64 < 8 then 0
      else if h' : (l : ℕ) % 64 < 16 then S ⟨(l : ℕ) % 64 - 8, by omega⟩ else 0) (n : Fin 1536) :
    colrot a b c P n = turn C S P n := by
  have e : (n : ℕ) % 128 % 64 = (n : ℕ) % 64 := by omega
  unfold colrot turn
  rw [ha, hb, hc]
  simp only [e]
  by_cases h : (n : ℕ) % 64 < 8
  · simp only [h, dif_pos, if_true, mul_zero, add_zero, mul_neg, sub_eq_add_neg]
    rw [show (⟨128 * ((n : ℕ) / 128) + ((n : ℕ) % 128 + 8) % 128, by omega⟩ : Fin 1536) = ⟨(n : ℕ) + 8, by omega⟩
      from Fin.ext (by change 128 * ((n : ℕ) / 128) + ((n : ℕ) % 128 + 8) % 128 = (n : ℕ) + 8; omega)]
  · by_cases h' : (n : ℕ) % 64 < 16
    · simp only [h, h', dif_pos, dif_neg, if_false, not_false_iff, mul_zero, add_zero]
      rw [show (⟨128 * ((n : ℕ) / 128) + ((n : ℕ) % 128 + 120) % 128, by omega⟩ : Fin 1536) = ⟨(n : ℕ) - 8, by omega⟩
        from Fin.ext (by change 128 * ((n : ℕ) / 128) + ((n : ℕ) % 128 + 120) % 128 = (n : ℕ) - 8; omega)]
    · simp only [h, h', dif_neg, if_false, not_false_iff, mul_zero, add_zero, mul_one]

end Cert.Rope

end
-- ==== Proof.Rope.Body.lean ====
module

public import proofs.«01_k».proof.Proof.Gen.Kernel3Ideal.Value
public import proofs.«01_k».proof.Proof.Rope.Spec
public import proofs.«01_k».proof.Proof.Tail.Body
public import Idealize.ShloMosaic.Lib.WholeRead
public import Idealize.ShloMosaic.Lib.Pipeline.ValueKit

/-! # What the projection's body stores, one row at a time -/

@[expose] public section

set_option maxRecDepth 16384

noncomputable section

namespace Cert.Rope

open Cert.Kernel3Ideal Cert.Kernel3Ideal.Gen Idealize.ShloMosaic
open Cert.Tail (row eK rms)

/-! ## The arithmetic of the body -/

theorem pay4_at (v3 : Vec Ideal S512x1024 .f32) (v5 : Vec Ideal S1x1024 .f32) (v20 : Vec Ideal S1024x1536 .bf16)
    (r : Fin 512) (n : Fin 1536) :
    k0_pay4 v3 v5 v20 (ix2 r n) = proj eK (row v3 r) (row v5 0) (row v20) n := by
  pointwise [k0_pay4]; rfl

theorem pay6_at (v22 : Vec Ideal S512x1024 .f32) (v24 : Vec Ideal S1x1024 .f32) (v39 : Vec Ideal S1024x1536 .bf16)
    (r : Fin 512) (n : Fin 1536) :
    k0_pay6 (k0_pay5 v22 v24) v39 (ix2 r n) = proj eK (row v22 r) (row v24 0) (row v39) n := by
  pointwise [k0_pay6, k0_pay5]; rfl

/-- A slice of 128 columns and its two rotations, each times its table. -/
def spin (o : ℕ) (hs : S512x1536.Slices ![0, o] S512x128) (X : FVec Ideal S512x1536 .f32)
    (a b c : FVec Ideal S512x128 .f32) : FVec Ideal S512x128 .f32 :=
  addf (addf (mulf (extractStridedSlice S512x128 ![0, o] X hs) a)
      (mulf (dynamicRotate 1 120#32 none (extractStridedSlice S512x128 ![0, o] X hs) rotates_S512x128_d1) b))
    (mulf (dynamicRotate 1 8#32 none (extractStridedSlice S512x128 ![0, o] X hs) rotates_S512x128_d1) c)

theorem spin_at (o : ℕ) (hs : S512x1536.Slices ![0, o] S512x128) (X : FVec Ideal S512x1536 .f32)
    (a b c : FVec Ideal S512x128 .f32) (j : ℕ) (ho : o = 128 * j) (r : Fin 512) (l : Fin 128) (h : o + (l : ℕ) < 1536) :
    spin o hs X a b c (ix2 r l) = colrot (row a r) (row b r) (row c r) (row X r) ⟨o + (l : ℕ), h⟩ := by
  have hl : (⟨(o + (l : ℕ)) % 128, by omega⟩ : Fin 128) = l := Fin.ext (by change (o + (l : ℕ)) % 128 = l; omega)
  unfold colrot row
  simp only [hl]
  pointwise [spin]
  have h1 : o + ((l : ℕ) + 128 - 120) % 128 = 128 * ((o + (l : ℕ)) / 128) + ((o + (l : ℕ)) % 128 + 8) % 128 := by omega
  have h2 : o + ((l : ℕ) + 128 - 8) % 128 = 128 * ((o + (l : ℕ)) / 128) + ((o + (l : ℕ)) % 128 + 120) % 128 := by omega
  refine congrArg₂ (· + ·) (congrArg₂ (· + ·) rfl ?_) ?_
  · exact congrArg (fun m => X (ix2 r m) * b (ix2 r l)) (Fin.ext h1)
  · exact congrArg (fun m => X (ix2 r m) * c (ix2 r l)) (Fin.ext h2)

/-! ## The stores -/

/-- A store of turned queries. -/
def store6 (r0 o : ℕ) (inb : ∀ a, (![r0, o] : Fin 2 → ℕ) a + (![512, 128] : Fin 2 → ℕ) a ≤ S1024x1024.size a)
    (hs : S512x1536.Slices ![0, o] S512x128) (X : FVec Ideal S512x1536 .f32) (a b c : FVec Ideal S512x128 .f32) :
    View.Piece (Elt Ideal) S1024x1024 .f32 :=
  ⟨Rect.unit (s := S1024x1024) ![r0, o] ![512, 128] inb, spin o hs X a b c⟩

/-- A store of turned keys. -/
def store7 (r0 p o : ℕ) (inb : ∀ a, (![r0, p] : Fin 2 → ℕ) a + (![512, 128] : Fin 2 → ℕ) a ≤ S1024x256.size a)
    (hs : S512x1536.Slices ![0, o] S512x128) (X : FVec Ideal S512x1536 .f32) (a b c : FVec Ideal S512x128 .f32) :
    View.Piece (Elt Ideal) S1024x256 .bf16 :=
  ⟨Rect.unit (s := S1024x256) ![r0, p] ![512, 128] inb, spin o hs X a b c⟩

/-- A store of values. -/
def store8 (r0 : ℕ) (inb : ∀ a, (![r0, 0] : Fin 2 → ℕ) a + (![512, 256] : Fin 2 → ℕ) a ≤ S1024x256.size a)
    (X : FVec Ideal S512x1536 .f32) : View.Piece (Elt Ideal) S1024x256 .bf16 :=
  ⟨Rect.unit (s := S1024x256) ![r0, 0] ![512, 256] inb, extractStridedSlice S512x256 ![0, 1280] X slices_S512x1536_o0_1280_S512x256⟩

variable (X1 X2 : FVec Ideal S512x1536 .f32) (a1 b1 c1 a2 b2 c2 : FVec Ideal S512x128 .f32)

/-- The stores of the queries, from the two halves' projections and tables. -/
def stores6 : List (View.Piece (Elt Ideal) S1024x1024 .f32) :=
  [store6 512 896 inb_S1024x1024_S512x128_512_896 slices_S512x1536_o0_896_S512x128 X2 a2 b2 c2,
    store6 512 768 inb_S1024x1024_S512x128_512_768 slices_S512x1536_o0_768_S512x128 X2 a2 b2 c2,
    store6 512 640 inb_S1024x1024_S512x128_512_640 slices_S512x1536_o0_640_S512x128 X2 a2 b2 c2,
    store6 512 512 inb_S1024x1024_S512x128_512_512 slices_S512x1536_o0_512_S512x128 X2 a2 b2 c2,
    store6 512 384 inb_S1024x1024_S512x128_512_384 slices_S512x1536_o0_384_S512x128 X2 a2 b2 c2,
    store6 512 256 inb_S1024x1024_S512x128_512_256 slices_S512x1536_o0_256_S512x128 X2 a2 b2 c2,
    store6 512 128 inb_S1024x1024_S512x128_512_128 slices_S512x1536_o0_128_S512x128 X2 a2 b2 c2,
    store6 512 0 inb_S1024x1024_S512x128_512_0 slices_S512x1536_o0_0_S512x128 X2 a2 b2 c2,
    store6 0 896 inb_S1024x1024_S512x128_0_896 slices_S512x1536_o0_896_S512x128 X1 a1 b1 c1,
    store6 0 768 inb_S1024x1024_S512x128_0_768 slices_S512x1536_o0_768_S512x128 X1 a1 b1 c1,
    store6 0 640 inb_S1024x1024_S512x128_0_640 slices_S512x1536_o0_640_S512x128 X1 a1 b1 c1,
    store6 0 512 inb_S1024x1024_S512x128_0_512 slices_S512x1536_o0_512_S512x128 X1 a1 b1 c1,
    store6 0 384 inb_S1024x1024_S512x128_0_384 slices_S512x1536_o0_384_S512x128 X1 a1 b1 c1,
    store6 0 256 inb_S1024x1024_S512x128_0_256 slices_S512x1536_o0_256_S512x128 X1 a1 b1 c1,
    store6 0 128 inb_S1024x1024_S512x128_0_128 slices_S512x1536_o0_128_S512x128 X1 a1 b1 c1,
    store6 0 0 inb_S1024x1024_S512x128_0_0 slices_S512x1536_o0_0_S512x128 X1 a1 b1 c1]

/-- The stores of the keys. -/
def stores7 : List (View.Piece (Elt Ideal) S1024x256 .bf16) :=
  [store7 512 128 1152 inb_S1024x256_S512x128_512_128 slices_S512x1536_o0_1152_S512x128 X2 a2 b2 c2,
    store7 512 0 1024 inb_S1024x256_S512x128_512_0 slices_S512x1536_o0_1024_S512x128 X2 a2 b2 c2,
    store7 0 128 1152 inb_S1024x256_S512x128_0_128 slices_S512x1536_o0_1152_S512x128 X1 a1 b1 c1,
    store7 0 0 1024 inb_S1024x256_S512x128_0_0 slices_S512x1536_o0_1024_S512x128 X1 a1 b1 c1]

/-- The stores of the values. -/
def stores8 : List (View.Piece (Elt Ideal) S1024x256 .bf16) :=
  [store8 512 inb_S1024x256_S512x256_512_0 X2, store8 0 inb_S1024x256_S512x256_0_0 X1]

/-! ## What the stores hold, together -/

/-- A row of turned queries, from the row of the projection and the rows of the tables. -/
def G6 (A B C : Fin 1024 → Fin 128 → EReal) (P : Fin 1024 → Fin 1536 → EReal) (y : S1024x1024.Idx) : EReal :=
  colrot (A (y 0)) (B (y 0)) (C (y 0)) (P (y 0)) ⟨(y 1 : ℕ), (show (y 1 : ℕ) < 1024 from (y 1).isLt).trans (by decide)⟩

/-- A row of turned keys. -/
def G7 (A B C : Fin 1024 → Fin 128 → EReal) (P : Fin 1024 → Fin 1536 → EReal) (y : S1024x256.Idx) : EReal :=
  colrot (A (y 0)) (B (y 0)) (C (y 0)) (P (y 0))
    ⟨1024 + (y 1 : ℕ), by have h : (y 1 : ℕ) < 256 := (y 1).isLt; omega⟩

/-- A row of values. -/
def G8 (P : Fin 1024 → Fin 1536 → EReal) (y : S1024x256.Idx) : EReal :=
  P (y 0) ⟨1280 + (y 1 : ℕ), by have h : (y 1 : ℕ) < 256 := (y 1).isLt; omega⟩

/-- The rows of half a block are the block's rows from `r0` on. -/
def Half {n : ℕ} (r0 : ℕ) (hr : r0 + 512 ≤ 1024) (X : (⟨2, ![512, n]⟩ : Shape).Idx → EReal) (P : Fin 1024 → Fin n → EReal) : Prop :=
  ∀ r : Fin 512, row X r = P ⟨r0 + (r : ℕ), by omega⟩

section

variable {A B C : Fin 1024 → Fin 128 → EReal} {P : Fin 1024 → Fin 1536 → EReal}

theorem store6_at (r0 o : ℕ) (inb : ∀ a, (![r0, o] : Fin 2 → ℕ) a + (![512, 128] : Fin 2 → ℕ) a ≤ S1024x1024.size a)
    (hs : S512x1536.Slices ![0, o] S512x128) (X : FVec Ideal S512x1536 .f32) (a b c : FVec Ideal S512x128 .f32)
    (hr : r0 + 512 ≤ 1024) (ho : o = 128 * (o / 128)) (hX : Half r0 hr X P) (ha : Half r0 hr a A) (hb : Half r0 hr b B)
    (hc : Half r0 hr c C) (x : (store6 r0 o inb hs X a b c).1.shape.Idx) :
    (store6 r0 o inb hs X a b c).2 x = G6 A B C P ((store6 r0 o inb hs X a b c).1.emb x) := by
  change S512x128.Idx at x
  obtain ⟨r, l, rfl⟩ : ∃ (r : Fin 512) (l : Fin 128), x = ix2 r l := ⟨x 0, x 1, eq_ix2 x⟩
  have i1 : o + 128 ≤ 1024 := inb 1
  refine (spin_at o hs X a b c _ ho r l (by omega)).trans ?_
  rw [ha r, hb r, hc r, hX r]
  have v0 : ((Rect.emb (Rect.unit (s := S1024x1024) ![r0, o] ![512, 128] inb) (ix2 r l)) 0 : ℕ) = r0 + (r : ℕ) := Rect.idx_unit_val _ _ _ _ 0
  have e0 : (⟨r0 + (r : ℕ), by omega⟩ : Fin 1024) = (Rect.emb (Rect.unit (s := S1024x1024) ![r0, o] ![512, 128] inb) (ix2 r l)) 0 := Fin.ext v0.symm
  have e1 : ((Rect.emb (Rect.unit (s := S1024x1024) ![r0, o] ![512, 128] inb) (ix2 r l)) 1 : ℕ) = o + (l : ℕ) :=
    Rect.idx_unit_val _ _ _ _ 1
  unfold G6
  change _ = colrot (A ((Rect.emb (Rect.unit (s := S1024x1024) ![r0, o] ![512, 128] inb) (ix2 r l)) 0)) _ _ _ _
  rw [e0]
  exact congrArg _ (Fin.ext e1.symm)

theorem store7_at (r0 p o : ℕ) (inb : ∀ a, (![r0, p] : Fin 2 → ℕ) a + (![512, 128] : Fin 2 → ℕ) a ≤ S1024x256.size a)
    (hs : S512x1536.Slices ![0, o] S512x128) (X : FVec Ideal S512x1536 .f32) (a b c : FVec Ideal S512x128 .f32)
    (hr : r0 + 512 ≤ 1024) (ho : o = 128 * (o / 128)) (hp : o = 1024 + p) (hX : Half r0 hr X P) (ha : Half r0 hr a A)
    (hb : Half r0 hr b B) (hc : Half r0 hr c C) (x : (store7 r0 p o inb hs X a b c).1.shape.Idx) :
    (store7 r0 p o inb hs X a b c).2 x = G7 A B C P ((store7 r0 p o inb hs X a b c).1.emb x) := by
  change S512x128.Idx at x
  obtain ⟨r, l, rfl⟩ : ∃ (r : Fin 512) (l : Fin 128), x = ix2 r l := ⟨x 0, x 1, eq_ix2 x⟩
  have i1 : p + 128 ≤ 256 := inb 1
  refine (spin_at o hs X a b c _ ho r l (by omega)).trans ?_
  rw [ha r, hb r, hc r, hX r]
  have v0 : ((Rect.emb (Rect.unit (s := S1024x256) ![r0, p] ![512, 128] inb) (ix2 r l)) 0 : ℕ) = r0 + (r : ℕ) := Rect.idx_unit_val _ _ _ _ 0
  have e0 : (⟨r0 + (r : ℕ), by omega⟩ : Fin 1024) = (Rect.emb (Rect.unit (s := S1024x256) ![r0, p] ![512, 128] inb) (ix2 r l)) 0 := Fin.ext v0.symm
  have e1 : ((Rect.emb (Rect.unit (s := S1024x256) ![r0, p] ![512, 128] inb) (ix2 r l)) 1 : ℕ) = p + (l : ℕ) :=
    Rect.idx_unit_val _ _ _ _ 1
  unfold G7
  change _ = colrot (A ((Rect.emb (Rect.unit (s := S1024x256) ![r0, p] ![512, 128] inb) (ix2 r l)) 0)) _ _ _ _
  rw [e0]
  exact congrArg _ (Fin.ext (by
    change o + (l : ℕ) = 1024 + ((Rect.emb (Rect.unit (s := S1024x256) ![r0, p] ![512, 128] inb) (ix2 r l)) 1 : ℕ)
    rw [e1]; omega))

theorem store8_at (r0 : ℕ) (inb : ∀ a, (![r0, 0] : Fin 2 → ℕ) a + (![512, 256] : Fin 2 → ℕ) a ≤ S1024x256.size a)
    (X : FVec Ideal S512x1536 .f32) (hr : r0 + 512 ≤ 1024) (hX : Half r0 hr X P) (x : (store8 r0 inb X).1.shape.Idx) :
    (store8 r0 inb X).2 x = G8 P ((store8 r0 inb X).1.emb x) := by
  change S512x256.Idx at x
  obtain ⟨r, l, rfl⟩ : ∃ (r : Fin 512) (l : Fin 256), x = ix2 r l := ⟨x 0, x 1, eq_ix2 x⟩
  have v0 : ((Rect.emb (Rect.unit (s := S1024x256) ![r0, 0] ![512, 256] inb) (ix2 r l)) 0 : ℕ) = r0 + (r : ℕ) := Rect.idx_unit_val _ _ _ _ 0
  have e0 : (⟨r0 + (r : ℕ), by omega⟩ : Fin 1024) = (Rect.emb (Rect.unit (s := S1024x256) ![r0, 0] ![512, 256] inb) (ix2 r l)) 0 := Fin.ext v0.symm
  have e1 : ((Rect.emb (Rect.unit (s := S1024x256) ![r0, 0] ![512, 256] inb) (ix2 r l)) 1 : ℕ) = l :=
    (Rect.idx_unit_val _ _ _ _ 1).trans (Nat.zero_add _)
  have cut : extractStridedSlice S512x256 ![0, 1280] X slices_S512x1536_o0_1280_S512x256 (ix2 r l)
      = row X r ⟨1280 + (l : ℕ), by omega⟩ := by unfold row; pointwise
  refine cut.trans ?_
  rw [hX r]
  unfold G8
  change _ = P ((Rect.emb (Rect.unit (s := S1024x256) ![r0, 0] ![512, 256] inb) (ix2 r l)) 0) _
  rw [e0]
  exact congrArg _ (Fin.ext (congrArg (1280 + ·) e1.symm))

theorem stores6_at (hX1 : Half 0 (by decide) X1 P) (ha1 : Half 0 (by decide) a1 A) (hb1 : Half 0 (by decide) b1 B)
    (hc1 : Half 0 (by decide) c1 C) (hX2 : Half 512 (by decide) X2 P) (ha2 : Half 512 (by decide) a2 A)
    (hb2 : Half 512 (by decide) b2 B) (hc2 : Half 512 (by decide) c2 C) :
    ∀ p ∈ stores6 X1 X2 a1 b1 c1 a2 b2 c2, ∀ x : p.1.shape.Idx, p.2 x = G6 A B C P (p.1.emb x) := by
  unfold stores6
  simp only [List.forall_mem_cons]
  refine ⟨?_, ?_, ?_, ?_, ?_, ?_, ?_, ?_, ?_, ?_, ?_, ?_, ?_, ?_, ?_, ?_, List.forall_mem_nil _⟩
  iterate 8 exact store6_at _ _ _ _ X2 a2 b2 c2 (by decide) (by decide) hX2 ha2 hb2 hc2
  iterate 8 exact store6_at _ _ _ _ X1 a1 b1 c1 (by decide) (by decide) hX1 ha1 hb1 hc1

theorem stores7_at (hX1 : Half 0 (by decide) X1 P) (ha1 : Half 0 (by decide) a1 A) (hb1 : Half 0 (by decide) b1 B)
    (hc1 : Half 0 (by decide) c1 C) (hX2 : Half 512 (by decide) X2 P) (ha2 : Half 512 (by decide) a2 A)
    (hb2 : Half 512 (by decide) b2 B) (hc2 : Half 512 (by decide) c2 C) :
    ∀ p ∈ stores7 X1 X2 a1 b1 c1 a2 b2 c2, ∀ x : p.1.shape.Idx, p.2 x = G7 A B C P (p.1.emb x) := by
  unfold stores7
  simp only [List.forall_mem_cons]
  refine ⟨?_, ?_, ?_, ?_, List.forall_mem_nil _⟩
  iterate 2 exact store7_at _ _ _ _ _ X2 a2 b2 c2 (by decide) (by decide) (by decide) hX2 ha2 hb2 hc2
  iterate 2 exact store7_at _ _ _ _ _ X1 a1 b1 c1 (by decide) (by decide) (by decide) hX1 ha1 hb1 hc1

theorem stores8_at (hX1 : Half 0 (by decide) X1 P) (hX2 : Half 512 (by decide) X2 P) :
    ∀ p ∈ stores8 X1 X2, ∀ x : p.1.shape.Idx, p.2 x = G8 P (p.1.emb x) := by
  unfold stores8
  simp only [List.forall_mem_cons]
  exact ⟨store8_at _ _ X2 (by decide) hX2, store8_at _ _ X1 (by decide) hX1, List.forall_mem_nil _⟩

end

/-! ## The halves -/

theorem ix2_ext {a b : ℕ} {x y : (⟨2, ![a, b]⟩ : Shape).Idx} (h0 : (x 0 : ℕ) = y 0) (h1 : (x 1 : ℕ) = y 1) : x = y := by
  funext j
  match j with
  | 0 => exact Fin.ext h0
  | 1 => exact Fin.ext h1

/-- A load of whole rows of a block. -/
theorem load_row {a b n r0 : ℕ} {e : EltTy} (arg : Memref sig .tc .vmem ⟨2, ![a, b]⟩ e) (harg : arg.IsWhole)
    (inb : ∀ k, (![r0, 0] : Fin 2 → ℕ) k + (![n, b] : Fin 2 → ℕ) k ≤ (⟨2, ![a, b]⟩ : Shape).size k)
    (x : Vec Ideal ⟨2, ![a, b]⟩ e) (r : Fin n) (l : Fin b) (h : r0 + (r : ℕ) < a) :
    View.readAt (Elt Ideal) arg.view (Rect.unit (s := ⟨2, ![a, b]⟩) ![r0, 0] ![n, b] inb).toLoadRect (harg.unread x) (ix2 r l)
      = x (ix2 ⟨r0 + (r : ℕ), h⟩ l) :=
  (harg.readAt_unread x _ _).trans (congrArg x (ix2_ext (Rect.idx_unit_val _ _ _ _ 0)
    ((Rect.idx_unit_val _ _ _ _ 1).trans (Nat.zero_add _))))

/-- The projection of every row of a block. -/
def P0 (x0 : Vec Ideal S1024x1024 .f32) (x1 : Vec Ideal S1x1024 .f32) (w : Vec Ideal S1024x1536 .bf16) :
    Fin 1024 → Fin 1536 → EReal := fun r => proj eK (row x0 r) (row x1 0) (row w)

section

theorem tab_at (v : Vec Ideal S512x128 .f32) (r : Fin 512) (l : Fin 128) :
    shapeCast S512x128 v shapeCasts_S512x128_S512x128 (ix2 r l) = v (ix2 r l) := by pointwise

theorem pay3_at (v : Vec Ideal S1024x1536 .f32) (k : Fin 1024) (l : Fin 1536) : k0_pay3 v (ix2 k l) = v (ix2 k l) := by
  pointwise [k0_pay3]

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1536 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S1024x1536 .bf16) (harg10 : arg10.IsWhole)
    (x0 : Vec Ideal S1024x1024 .f32) (x1 : Vec Ideal S1x1024 .f32) (x2 : Vec Ideal S1024x1536 .f32) (x3 x4 x5 : Vec Ideal S1024x128 .f32)

theorem runA_6 (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5).1
      = stores6 (kernelRun0_A.sl.r c arg1 harg1 arg2 harg2 arg3 harg3 arg10 x0 x1 x2) (kernelRun0_A.sl.r_2 c arg1 harg1 arg2 harg2 arg3 harg3 arg10 x0 x1 x2)
        (kernelRun0_B.sl.r_3 c arg4 harg4 x3) (kernelRun0_B.sl.r_4 c arg5 harg5 x4) (kernelRun0_B.sl.r_5 c arg6 harg6 x5)
        (kernelRun0_B.sl.r_10 c arg4 harg4 x3) (kernelRun0_B.sl.r_11 c arg5 harg5 x4) (kernelRun0_B.sl.r_12 c arg6 harg6 x5) := by
  unfold kernelRun0_A; rfl

theorem runA_7 (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5).2.1
      = stores7 (kernelRun0_A.sl.r c arg1 harg1 arg2 harg2 arg3 harg3 arg10 x0 x1 x2) (kernelRun0_A.sl.r_2 c arg1 harg1 arg2 harg2 arg3 harg3 arg10 x0 x1 x2)
        (kernelRun0_B.sl.r_3 c arg4 harg4 x3) (kernelRun0_B.sl.r_4 c arg5 harg5 x4) (kernelRun0_B.sl.r_5 c arg6 harg6 x5)
        (kernelRun0_B.sl.r_10 c arg4 harg4 x3) (kernelRun0_B.sl.r_11 c arg5 harg5 x4) (kernelRun0_B.sl.r_12 c arg6 harg6 x5) := by
  unfold kernelRun0_A; rfl

theorem runA_8 (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5).2.2.1
      = stores8 (kernelRun0_A.sl.r c arg1 harg1 arg2 harg2 arg3 harg3 arg10 x0 x1 x2) (kernelRun0_A.sl.r_2 c arg1 harg1 arg2 harg2 arg3 harg3 arg10 x0 x1 x2) := by
  unfold kernelRun0_A; rfl

theorem runB_6 (hc0 : ¬ cond0_0 i) (xs0 : Vec Ideal S1024x1536 .bf16) :
    (kernelRun0_B c i arg1 harg1 arg2 harg2 arg3 harg3 arg4 harg4 arg5 harg5 arg6 harg6 arg7 harg7 arg8 harg8 arg9 harg9 arg10 harg10 hc0 x0 x1 x2 x3 x4 x5 xs0).1
      = stores6 (kernelRun0_B.sl.r c arg1 harg1 arg2 harg2 arg10 harg10 x0 x1 xs0) (kernelRun0_B.sl.r_2 c arg1 harg1 arg2 harg2 arg10 harg10 x0 x1 xs0)
        (kernelRun0_B.sl.r_3 c arg4 harg4 x3) (kernelRun0_B.sl.r_4 c arg5 harg5 x4) (kernelRun0_B.sl.r_5 c arg6 harg6 x5)
        (kernelRun0_B.sl.r_10 c arg4 harg4 x3) (kernelRun0_B.sl.r_11 c arg5 harg5 x4) (kernelRun0_B.sl.r_12 c arg6 harg6 x5) := by
  unfold kernelRun0_B; rfl

theorem runB_7 (hc0 : ¬ cond0_0 i) (xs0 : Vec Ideal S1024x1536 .bf16) :
    (kernelRun0_B c i arg1 harg1 arg2 harg2 arg3 harg3 arg4 harg4 arg5 harg5 arg6 harg6 arg7 harg7 arg8 harg8 arg9 harg9 arg10 harg10 hc0 x0 x1 x2 x3 x4 x5 xs0).2.1
      = stores7 (kernelRun0_B.sl.r c arg1 harg1 arg2 harg2 arg10 harg10 x0 x1 xs0) (kernelRun0_B.sl.r_2 c arg1 harg1 arg2 harg2 arg10 harg10 x0 x1 xs0)
        (kernelRun0_B.sl.r_3 c arg4 harg4 x3) (kernelRun0_B.sl.r_4 c arg5 harg5 x4) (kernelRun0_B.sl.r_5 c arg6 harg6 x5)
        (kernelRun0_B.sl.r_10 c arg4 harg4 x3) (kernelRun0_B.sl.r_11 c arg5 harg5 x4) (kernelRun0_B.sl.r_12 c arg6 harg6 x5) := by
  unfold kernelRun0_B; rfl

theorem runB_8 (hc0 : ¬ cond0_0 i) (xs0 : Vec Ideal S1024x1536 .bf16) :
    (kernelRun0_B c i arg1 harg1 arg2 harg2 arg3 harg3 arg4 harg4 arg5 harg5 arg6 harg6 arg7 harg7 arg8 harg8 arg9 harg9 arg10 harg10 hc0 x0 x1 x2 x3 x4 x5 xs0).2.2.1
      = stores8 (kernelRun0_B.sl.r c arg1 harg1 arg2 harg2 arg10 harg10 x0 x1 xs0) (kernelRun0_B.sl.r_2 c arg1 harg1 arg2 harg2 arg10 harg10 x0 x1 xs0) := by
  unfold kernelRun0_B; rfl

theorem half_t3 : Half 0 (by decide) (kernelRun0_B.sl.r_3 c arg4 harg4 x3) (row x3) := fun r => funext fun l =>
  (tab_at _ r l).trans (load_row arg4 harg4 _ x3 r l _)
theorem half_t4 : Half 0 (by decide) (kernelRun0_B.sl.r_4 c arg5 harg5 x4) (row x4) := fun r => funext fun l =>
  (tab_at _ r l).trans (load_row arg5 harg5 _ x4 r l _)
theorem half_t5 : Half 0 (by decide) (kernelRun0_B.sl.r_5 c arg6 harg6 x5) (row x5) := fun r => funext fun l =>
  (tab_at _ r l).trans (load_row arg6 harg6 _ x5 r l _)
theorem half_t10 : Half 512 (by decide) (kernelRun0_B.sl.r_10 c arg4 harg4 x3) (row x3) := fun r => funext fun l =>
  (tab_at _ r l).trans (load_row arg4 harg4 _ x3 r l _)
theorem half_t11 : Half 512 (by decide) (kernelRun0_B.sl.r_11 c arg5 harg5 x4) (row x4) := fun r => funext fun l =>
  (tab_at _ r l).trans (load_row arg5 harg5 _ x4 r l _)
theorem half_t12 : Half 512 (by decide) (kernelRun0_B.sl.r_12 c arg6 harg6 x5) (row x5) := fun r => funext fun l =>
  (tab_at _ r l).trans (load_row arg6 harg6 _ x5 r l _)

theorem rows0 (r : Fin 512) : row (View.readAt (Elt Ideal) arg1.view
    (Rect.unit (s := S1024x1024) ![0, 0] S512x1024.size inb_S1024x1024_S512x1024_0_0).toLoadRect (harg1.unread x0)) r
      = row x0 ⟨0 + (r : ℕ), by omega⟩ := funext fun l => load_row arg1 harg1 _ x0 r l _

theorem rows512 (r : Fin 512) : row (View.readAt (Elt Ideal) arg1.view
    (Rect.unit (s := S1024x1024) ![512, 0] S512x1024.size inb_S1024x1024_S512x1024_512_0).toLoadRect (harg1.unread x0)) r
      = row x0 ⟨512 + (r : ℕ), by omega⟩ := funext fun l => load_row arg1 harg1 _ x0 r l _

theorem gain0 : row (View.readAt (Elt Ideal) arg2.view
    (Rect.unit (s := S1x1024) ![0, 0] S1x1024.size inb_S1x1024_S1x1024_0_0).toLoadRect (harg2.unread x1)) (0 : Fin 1)
      = row x1 0 := funext fun l => load_row arg2 harg2 _ x1 (0 : Fin 1) l _

theorem weight0 (xs0 : Vec Ideal S1024x1536 .bf16) : row (View.readAt (Elt Ideal) arg10.view
    (Rect.unit (s := S1024x1536) ![0, 0] S1024x1536.size inb_S1024x1536_S1024x1536_0_0).toLoadRect (harg10.unread xs0))
      = row xs0 := funext fun k => funext fun l =>
  (load_row arg10 harg10 _ xs0 k l (by omega)).trans (congrArg xs0 (ix2_ext (Nat.zero_add _) rfl))

theorem halfB_1 (xs0 : Vec Ideal S1024x1536 .bf16) :
    Half 0 (by decide) (kernelRun0_B.sl.r c arg1 harg1 arg2 harg2 arg10 harg10 x0 x1 xs0) (P0 x0 x1 xs0) := fun r =>
  funext fun l => by
    refine (pay4_at _ _ _ r l).trans ?_
    rw [rows0, gain0, weight0]; rfl

theorem halfB_2 (xs0 : Vec Ideal S1024x1536 .bf16) :
    Half 512 (by decide) (kernelRun0_B.sl.r_2 c arg1 harg1 arg2 harg2 arg10 harg10 x0 x1 xs0) (P0 x0 x1 xs0) := fun r =>
  funext fun l => by
    refine (pay6_at _ _ _ r l).trans ?_
    rw [rows512, gain0, weight0]; rfl

/-- The weight that the first point leaves in the scratch and reads back. -/
theorem weightA : row (kernelRun0_A.sl.v20 c arg3 harg3 arg10 x2) = row x2 := by
  funext k l
  refine (congrFun (View.readCov_unit_lit arg10.view inb_S1024x1536_S1024x1536_0_0 _ (by decide)) (ix2 k l)).trans ?_
  refine (pay3_at _ k l).trans ?_
  exact (load_row arg3 harg3 _ x2 k l (by omega)).trans (congrArg x2 (ix2_ext (Nat.zero_add _) rfl))

/-- The scratch after the first point holds the weight. -/
theorem scratchA (hc0 : cond0_0 i) (k : Fin 1024) (l : Fin 1536) :
    sout0_A_0 c i arg1 harg1 arg2 harg2 arg3 harg3 arg4 harg4 arg5 harg5 arg6 harg6 arg7 harg7 arg8 harg8 arg9 harg9 arg10 harg10 hc0 x0 x1 x2 x3 x4 x5 (ix2 k l) = x2 (ix2 k l) := by
  unfold sout0_A_0
  rw [View.read_writes_junk_apply_eq_canon]
  unfold kernelRun0_A
  dsimp only
  unfold kernelRun0_A.sl.HS0_1
  refine (congrFun (View.canon_cons_unit_lit inb_S1024x1536_S1024x1536_0_0 _ _ (by decide)) (ix2 k l)).trans ?_
  refine (pay3_at _ k l).trans ?_
  exact (load_row arg3 harg3 _ x2 k l (by omega)).trans (congrArg x2 (ix2_ext (Nat.zero_add _) rfl))

theorem halfA_1 :
    Half 0 (by decide) (kernelRun0_A.sl.r c arg1 harg1 arg2 harg2 arg3 harg3 arg10 x0 x1 x2) (P0 x0 x1 x2) := fun r =>
  funext fun l => by
    refine (pay4_at _ _ _ r l).trans ?_
    rw [rows0, gain0, weightA]; rfl

theorem halfA_2 :
    Half 512 (by decide) (kernelRun0_A.sl.r_2 c arg1 harg1 arg2 harg2 arg3 harg3 arg10 x0 x1 x2) (P0 x0 x1 x2) := fun r =>
  funext fun l => by
    refine (pay6_at _ _ _ r l).trans ?_
    rw [rows512, gain0, weightA]; rfl

theorem outA_6 (hc0 : cond0_0 i) (y : S1024x1024.Idx) :
    out0_A_6 c i arg1 harg1 arg2 harg2 arg3 harg3 arg4 harg4 arg5 harg5 arg6 harg6 arg7 harg7 arg8 harg8 arg9 harg9 arg10 harg10 hc0 x0 x1 x2 x3 x4 x5 y
      = G6 (row x3) (row x4) (row x5) (P0 x0 x1 x2) y := by
  unfold out0_A_6
  rw [View.read_writes_junk_apply_eq_canon]
  refine View.canon_apply_of_pieces (Val := Elt Ideal) (e := .f32) (G6 (row x3) (row x4) (row x5) (P0 x0 x1 x2)) _ ?_ y
    (cover0_A_6 c i arg1 harg1 arg2 harg2 arg3 harg3 arg4 harg4 arg5 harg5 arg6 harg6 arg7 harg7 arg8 harg8 arg9 harg9 arg10 harg10 hc0 x0 x1 x2 x3 x4 x5 y)
  rw [runA_6]
  exact stores6_at _ _ _ _ _ _ _ _ (halfA_1 c arg1 harg1 arg2 harg2 arg3 harg3 arg10 x0 x1 x2) (half_t3 c arg4 harg4 x3) (half_t4 c arg5 harg5 x4)
    (half_t5 c arg6 harg6 x5) (halfA_2 c arg1 harg1 arg2 harg2 arg3 harg3 arg10 x0 x1 x2) (half_t10 c arg4 harg4 x3)
    (half_t11 c arg5 harg5 x4) (half_t12 c arg6 harg6 x5)

theorem outA_7 (hc0 : cond0_0 i) (y : S1024x256.Idx) :
    out0_A_7 c i arg1 harg1 arg2 harg2 arg3 harg3 arg4 harg4 arg5 harg5 arg6 harg6 arg7 harg7 arg8 harg8 arg9 harg9 arg10 harg10 hc0 x0 x1 x2 x3 x4 x5 y
      = G7 (row x3) (row x4) (row x5) (P0 x0 x1 x2) y := by
  unfold out0_A_7
  rw [View.read_writes_junk_apply_eq_canon]
  refine View.canon_apply_of_pieces (Val := Elt Ideal) (e := .bf16) (G7 (row x3) (row x4) (row x5) (P0 x0 x1 x2)) _ ?_ y
    (cover0_A_7 c i arg1 harg1 arg2 harg2 arg3 harg3 arg4 harg4 arg5 harg5 arg6 harg6 arg7 harg7 arg8 harg8 arg9 harg9 arg10 harg10 hc0 x0 x1 x2 x3 x4 x5 y)
  rw [runA_7]
  exact stores7_at _ _ _ _ _ _ _ _ (halfA_1 c arg1 harg1 arg2 harg2 arg3 harg3 arg10 x0 x1 x2) (half_t3 c arg4 harg4 x3) (half_t4 c arg5 harg5 x4)
    (half_t5 c arg6 harg6 x5) (halfA_2 c arg1 harg1 arg2 harg2 arg3 harg3 arg10 x0 x1 x2) (half_t10 c arg4 harg4 x3)
    (half_t11 c arg5 harg5 x4) (half_t12 c arg6 harg6 x5)

theorem outA_8 (hc0 : cond0_0 i) (y : S1024x256.Idx) :
    out0_A_8 c i arg1 harg1 arg2 harg2 arg3 harg3 arg4 harg4 arg5 harg5 arg6 harg6 arg7 harg7 arg8 harg8 arg9 harg9 arg10 harg10 hc0 x0 x1 x2 x3 x4 x5 y
      = G8 (P0 x0 x1 x2) y := by
  unfold out0_A_8
  rw [View.read_writes_junk_apply_eq_canon]
  refine View.canon_apply_of_pieces (Val := Elt Ideal) (e := .bf16) (G8 (P0 x0 x1 x2)) _ ?_ y
    (cover0_A_8 c i arg1 harg1 arg2 harg2 arg3 harg3 arg4 harg4 arg5 harg5 arg6 harg6 arg7 harg7 arg8 harg8 arg9 harg9 arg10 harg10 hc0 x0 x1 x2 x3 x4 x5 y)
  rw [runA_8]
  exact stores8_at _ _ (halfA_1 c arg1 harg1 arg2 harg2 arg3 harg3 arg10 x0 x1 x2) (halfA_2 c arg1 harg1 arg2 harg2 arg3 harg3 arg10 x0 x1 x2)

theorem outB_6 (hc0 : ¬ cond0_0 i) (xs0 : Vec Ideal S1024x1536 .bf16) (y : S1024x1024.Idx) :
    out0_B_6 c i arg1 harg1 arg2 harg2 arg3 harg3 arg4 harg4 arg5 harg5 arg6 harg6 arg7 harg7 arg8 harg8 arg9 harg9 arg10 harg10 hc0 x0 x1 x2 x3 x4 x5 xs0 y
      = G6 (row x3) (row x4) (row x5) (P0 x0 x1 xs0) y := by
  unfold out0_B_6
  rw [View.read_writes_junk_apply_eq_canon]
  refine View.canon_apply_of_pieces (Val := Elt Ideal) (e := .f32) (G6 (row x3) (row x4) (row x5) (P0 x0 x1 xs0)) _ ?_ y
    (cover0_B_6 c i arg1 harg1 arg2 harg2 arg3 harg3 arg4 harg4 arg5 harg5 arg6 harg6 arg7 harg7 arg8 harg8 arg9 harg9 arg10 harg10 hc0 x0 x1 x2 x3 x4 x5 xs0 y)
  rw [runB_6]
  exact stores6_at _ _ _ _ _ _ _ _ (halfB_1 c arg1 harg1 arg2 harg2 arg10 harg10 x0 x1 xs0) (half_t3 c arg4 harg4 x3) (half_t4 c arg5 harg5 x4)
    (half_t5 c arg6 harg6 x5) (halfB_2 c arg1 harg1 arg2 harg2 arg10 harg10 x0 x1 xs0) (half_t10 c arg4 harg4 x3)
    (half_t11 c arg5 harg5 x4) (half_t12 c arg6 harg6 x5)

theorem outB_7 (hc0 : ¬ cond0_0 i) (xs0 : Vec Ideal S1024x1536 .bf16) (y : S1024x256.Idx) :
    out0_B_7 c i arg1 harg1 arg2 harg2 arg3 harg3 arg4 harg4 arg5 harg5 arg6 harg6 arg7 harg7 arg8 harg8 arg9 harg9 arg10 harg10 hc0 x0 x1 x2 x3 x4 x5 xs0 y
      = G7 (row x3) (row x4) (row x5) (P0 x0 x1 xs0) y := by
  unfold out0_B_7
  rw [View.read_writes_junk_apply_eq_canon]
  refine View.canon_apply_of_pieces (Val := Elt Ideal) (e := .bf16) (G7 (row x3) (row x4) (row x5) (P0 x0 x1 xs0)) _ ?_ y
    (cover0_B_7 c i arg1 harg1 arg2 harg2 arg3 harg3 arg4 harg4 arg5 harg5 arg6 harg6 arg7 harg7 arg8 harg8 arg9 harg9 arg10 harg10 hc0 x0 x1 x2 x3 x4 x5 xs0 y)
  rw [runB_7]
  exact stores7_at _ _ _ _ _ _ _ _ (halfB_1 c arg1 harg1 arg2 harg2 arg10 harg10 x0 x1 xs0) (half_t3 c arg4 harg4 x3) (half_t4 c arg5 harg5 x4)
    (half_t5 c arg6 harg6 x5) (halfB_2 c arg1 harg1 arg2 harg2 arg10 harg10 x0 x1 xs0) (half_t10 c arg4 harg4 x3)
    (half_t11 c arg5 harg5 x4) (half_t12 c arg6 harg6 x5)

theorem outB_8 (hc0 : ¬ cond0_0 i) (xs0 : Vec Ideal S1024x1536 .bf16) (y : S1024x256.Idx) :
    out0_B_8 c i arg1 harg1 arg2 harg2 arg3 harg3 arg4 harg4 arg5 harg5 arg6 harg6 arg7 harg7 arg8 harg8 arg9 harg9 arg10 harg10 hc0 x0 x1 x2 x3 x4 x5 xs0 y
      = G8 (P0 x0 x1 xs0) y := by
  unfold out0_B_8
  rw [View.read_writes_junk_apply_eq_canon]
  refine View.canon_apply_of_pieces (Val := Elt Ideal) (e := .bf16) (G8 (P0 x0 x1 xs0)) _ ?_ y
    (cover0_B_8 c i arg1 harg1 arg2 harg2 arg3 harg3 arg4 harg4 arg5 harg5 arg6 harg6 arg7 harg7 arg8 harg8 arg9 harg9 arg10 harg10 hc0 x0 x1 x2 x3 x4 x5 xs0 y)
  rw [runB_8]
  exact stores8_at _ _ (halfB_1 c arg1 harg1 arg2 harg2 arg10 harg10 x0 x1 xs0) (halfB_2 c arg1 harg1 arg2 harg2 arg10 harg10 x0 x1 xs0)

end

end Cert.Rope

end
-- ==== Proof.Rope.Ref.lean ====
module

public import proofs.«01_k».proof.Proof.Gen.Reference3Ideal.Read
public import proofs.«01_k».proof.Proof.Rope.Spec
public import proofs.«01_k».proof.Proof.Tail.Ref
public import Idealize.ShloMosaic.Lib.Pointwise

/-! # The plain projection with rotary positions at an index -/

@[expose] public section

noncomputable section

namespace Cert.Rope

open Idealize.ShloMosaic Cert.Reference3Ideal Cert.Reference3Ideal.Read
open Cert.Tail (tok mat vec eR rms)

variable (x0 : (⟨S8x2048x1024, .f32⟩ : BufTy).Contents (Elt Ideal)) (x1 : (⟨S1024, .f32⟩ : BufTy).Contents (Elt Ideal))
  (x2 : (⟨S1024x1536, .f32⟩ : BufTy).Contents (Elt Ideal)) (b : Fin 8) (s : Fin 2048)

/-- The cosines and sines of a position's angles. -/
abbrev cosR (s : Fin 2048) (d : Fin 8) : EReal := mat (val_main_v35 (F := Ideal)) s d
abbrev sinR (s : Fin 2048) (d : Fin 8) : EReal := mat (val_main_v37 (F := Ideal)) s d

theorem ref_norm (j : Fin 1024) : tok (val_main_v12 (F := Ideal) x0 x1) b s j = rms eR (tok x0 b s) (vec x1) j := by
  unfold rms tok vec
  pointwise [val_main_v12, val_main_v11, val_main_v10, val_main_v9, val_main_v8, val_main_v7,
    val_main_v6, val_main_v5, val_main_v4, val_main_v3, val_main_v2, val_main_v1, val_main_v0, val_main_cst, val_main_cst_0, val_main_cst_1]

theorem ref_proj (n : Fin 1536) : tok (val_main_v13 (F := Ideal) x0 x1 x2) b s n
    = proj eR (tok x0 b s) (vec x1) (mat x2) n := by
  unfold proj
  simp only [← ref_norm]
  unfold tok mat
  pointwise [val_main_v13]

theorem ref_q (n : Fin 1024) : val_main_v54 (F := Ideal) x0 x1 x2 (ix4 b s ⟨(n : ℕ) / 64, by omega⟩ ⟨(n : ℕ) % 64, by omega⟩)
    = turn (cosR s) (sinR s) (tok (val_main_v13 (F := Ideal) x0 x1 x2) b s) ⟨n, by omega⟩ := by
  unfold turn cosR sinR tok mat
  pointwise [val_main_v54, val_main_v53, val_main_v52, val_main_v51, val_main_v50, val_main_v49, val_main_v48, val_main_v47,
    val_main_v46, val_main_v45, val_main_v44, val_main_v43, val_main_v42, val_main_v41, val_main_v40, val_main_v39,
    val_main_v38, val_main_v36, val_main_v18, val_main_v14]
  by_cases h8 : (n : ℕ) % 64 < 8
  · have h16 : (n : ℕ) % 64 < 16 := by omega
    have i1 : (n : ℕ) / 64 * 64 + (8 + (n : ℕ) % 64) = (n : ℕ) + 8 := by omega
    simp only [dif_pos h16, dif_pos h8, i1]
  · by_cases h16 : (n : ℕ) % 64 < 16
    · have i1 : (n : ℕ) / 64 * 64 + (8 + ((n : ℕ) % 64 - 8)) = (n : ℕ) := by omega
      have i2 : (n : ℕ) / 64 * 64 + ((n : ℕ) % 64 - 8) = (n : ℕ) - 8 := by omega
      simp only [dif_pos h16, dif_neg h8, i1, i2]
    · have i1 : (n : ℕ) / 64 * 64 + (16 + ((n : ℕ) % 64 - 16)) = (n : ℕ) := by omega
      simp only [dif_neg h16, dif_neg h8, i1]

theorem ref_k (n : Fin 256) : val_main_v91 (F := Ideal) x0 x1 x2 (ix4 b s ⟨(n : ℕ) / 64, by omega⟩ ⟨(n : ℕ) % 64, by omega⟩)
    = turn (cosR s) (sinR s) (tok (val_main_v13 (F := Ideal) x0 x1 x2) b s) ⟨1024 + n, by omega⟩ := by
  unfold turn cosR sinR tok mat
  pointwise [val_main_v91, val_main_v90, val_main_v89, val_main_v88, val_main_v87, val_main_v86, val_main_v85, val_main_v84,
    val_main_v83, val_main_v82, val_main_v81, val_main_v80, val_main_v79, val_main_v78, val_main_v77, val_main_v76,
    val_main_v75, val_main_v73, val_main_v55, val_main_v15]
  have e : (1024 + (n : ℕ)) % 64 = (n : ℕ) % 64 := by omega
  have e72 : val_main_v72 (F := Ideal) = val_main_v35 (F := Ideal) := rfl
  have e74 : val_main_v74 (F := Ideal) = val_main_v37 (F := Ideal) := rfl
  simp only [e, e72, e74]
  by_cases h8 : (n : ℕ) % 64 < 8
  · have h16 : (n : ℕ) % 64 < 16 := by omega
    have i1 : 1024 + ((n : ℕ) / 64 * 64 + (8 + (n : ℕ) % 64)) = 1024 + (n : ℕ) + 8 := by omega
    simp only [dif_pos h16, dif_pos h8, i1]
  · by_cases h16 : (n : ℕ) % 64 < 16
    · have i1 : 1024 + ((n : ℕ) / 64 * 64 + (8 + ((n : ℕ) % 64 - 8))) = 1024 + (n : ℕ) := by omega
      have i2 : 1024 + ((n : ℕ) / 64 * 64 + ((n : ℕ) % 64 - 8)) = 1024 + (n : ℕ) - 8 := by omega
      simp only [dif_pos h16, dif_neg h8, i1, i2]
    · have i1 : 1024 + ((n : ℕ) / 64 * 64 + (16 + ((n : ℕ) % 64 - 16))) = 1024 + (n : ℕ) := by omega
      simp only [dif_neg h16, dif_neg h8, i1]

end Cert.Rope

end
-- ==== Proof.Rope.Tables.lean ====
module

public import proofs.«01_k».proof.Proof.Gen.Kernel3Ideal.Value
public import proofs.«01_k».proof.Proof.Rope.Ref
public import Idealize.ShloMosaic.Lib.Claim

/-! # The tables of cosines and sines that the host prepares -/

@[expose] public section

set_option maxRecDepth 16384

noncomputable section

namespace Cert.Rope

open Cert.Kernel3Ideal Cert.Kernel3Ideal.Gen Idealize.ShloMosaic Idealize.SL.Sem

/-- A table of 2048 rows. -/
abbrev Tab (s : Shape) : Type := (⟨s, .f32⟩ : BufTy).Contents (Elt Ideal)

/-- One number in every place. -/
abbrev fill8 (w : BitVec 32) : Tab S2048x8 := broadcastInDim S2048x8 ![] bcast_S_S2048x8 (constant (F := Ideal) S_ .f32 w)
abbrev fill48 (w : BitVec 32) : Tab S2048x48 := broadcastInDim S2048x48 ![] bcast_S_S2048x48 (constant (F := Ideal) S_ .f32 w)
abbrev fill56 (w : BitVec 32) : Tab S2048x56 := broadcastInDim S2048x56 ![] bcast_S_S2048x56 (constant (F := Ideal) S_ .f32 w)

/-- The three tables, from the cosines and sines of the angles. -/
def tabC (C : Tab S2048x8) : Tab S2048x128 :=
  concatenate S2048x128 1 [⟨S2048x8, C⟩, ⟨S2048x8, C⟩, ⟨S2048x48, fill48 0x3F800000#32⟩, ⟨S2048x8, C⟩, ⟨S2048x8, C⟩,
    ⟨S2048x48, fill48 0x3F800000#32⟩] concatenates_S2048x8_S2048x8_S2048x48_S2048x8_S2048x8_S2048x48_S2048x128_d1
def tabL (S : Tab S2048x8) : Tab S2048x128 :=
  concatenate S2048x128 1 [⟨S2048x8, Host.negf (F := Ideal) (φ := .f32) S⟩, ⟨S2048x56, fill56 0#32⟩,
    ⟨S2048x8, Host.negf (F := Ideal) (φ := .f32) S⟩, ⟨S2048x56, fill56 0#32⟩]
    concatenates_S2048x8_S2048x56_S2048x8_S2048x56_S2048x128_d1
def tabH (S : Tab S2048x8) : Tab S2048x128 :=
  concatenate S2048x128 1 [⟨S2048x8, fill8 0#32⟩, ⟨S2048x8, S⟩, ⟨S2048x48, fill48 0#32⟩, ⟨S2048x8, fill8 0#32⟩, ⟨S2048x8, S⟩,
    ⟨S2048x48, fill48 0#32⟩] concatenates_S2048x8_S2048x8_S2048x48_S2048x8_S2048x8_S2048x48_S2048x128_d1

theorem tabC_at (C : Tab S2048x8) (s : Fin 2048) (l : Fin 128) :
    tabC C (ix2 s l) = if h : (l : ℕ) % 64 < 8 then C (ix2 s ⟨(l : ℕ) % 64, h⟩)
      else if h' : (l : ℕ) % 64 < 16 then C (ix2 s ⟨(l : ℕ) % 64 - 8, by omega⟩) else 1 := by
  pointwise [tabC]
  by_cases h1 : (l : ℕ) % 64 < 8
  · simp only [h1, dif_pos, if_true]
    split_ifs <;> first
      | rfl
      | (exfalso; omega)
      | (refine congrArg (fun k => C (ix2 s k)) (Fin.ext ?_); dsimp only; omega)
  · by_cases h2 : (l : ℕ) % 64 < 16
    · simp only [h1, h2, dif_pos, dif_neg, if_false, not_false_iff]
      split_ifs <;> first
        | rfl
        | (exfalso; omega)
        | (refine congrArg (fun k => C (ix2 s k)) (Fin.ext ?_); dsimp only; omega)
    · simp only [h1, h2, dif_neg, if_false, not_false_iff]
      split_ifs <;> first
        | rfl
        | (exfalso; omega)
        | (refine congrArg (fun k => C (ix2 s k)) (Fin.ext ?_); dsimp only; omega)

theorem tabL_at (S : Tab S2048x8) (s : Fin 2048) (l : Fin 128) :
    tabL S (ix2 s l) = if h : (l : ℕ) % 64 < 8 then - S (ix2 s ⟨(l : ℕ) % 64, h⟩) else 0 := by
  pointwise [tabL]
  by_cases h1 : (l : ℕ) % 64 < 8
  · simp only [h1, dif_pos, if_true]
    split_ifs <;> first
      | rfl
      | (exfalso; omega)
      | (refine congrArg (fun k => - S (ix2 s k)) (Fin.ext ?_); dsimp only; omega)
  · simp only [h1, dif_neg, not_false_iff]
    split_ifs <;> first
      | rfl
      | (exfalso; omega)
      | (refine congrArg (fun k => - S (ix2 s k)) (Fin.ext ?_); dsimp only; omega)

theorem tabH_at (S : Tab S2048x8) (s : Fin 2048) (l : Fin 128) :
    tabH S (ix2 s l) = if (l : ℕ) % 64 < 8 then 0
      else if h' : (l : ℕ) % 64 < 16 then S (ix2 s ⟨(l : ℕ) % 64 - 8, by omega⟩) else 0 := by
  pointwise [tabH]
  by_cases h1 : (l : ℕ) % 64 < 8
  · simp only [h1, dif_pos, if_true]
    split_ifs <;> first
      | rfl
      | (exfalso; omega)
      | (refine congrArg (fun k => S (ix2 s k)) (Fin.ext ?_); dsimp only; omega)
  · by_cases h2 : (l : ℕ) % 64 < 16
    · simp only [h1, h2, dif_pos, dif_neg, if_false, not_false_iff]
      split_ifs <;> first
        | rfl
        | (exfalso; omega)
        | (refine congrArg (fun k => S (ix2 s k)) (Fin.ext ?_); dsimp only; omega)
    · simp only [h1, h2, dif_neg, if_false, not_false_iff]
      split_ifs <;> first
        | rfl
        | (exfalso; omega)
        | (refine congrArg (fun k => S (ix2 s k)) (Fin.ext ?_); dsimp only; omega)

variable (m : (ℓ : Loc nD τ sig) → Buf (Elt Ideal) ℓ) (c : Dev nD)

theorem V25 : V m c main_v25 = tabC (Cert.Reference3Ideal.Read.val_main_v35 (F := Ideal)) := rfl
theorem V26 : V m c main_v26 = tabL (Cert.Reference3Ideal.Read.val_main_v37 (F := Ideal)) := rfl
theorem V27 : V m c main_v27 = tabH (Cert.Reference3Ideal.Read.val_main_v37 (F := Ideal)) := rfl

end Cert.Rope

end
-- ==== Proof.Rope.Value.lean ====
module

public import proofs.«01_k».proof.Proof.Rope.Body
public import proofs.«01_k».proof.Proof.Rope.Tables
public import proofs.«01_k».proof.Proof.Tail.Value
public import Idealize.ShloMosaic.Lib.Claim

/-! # The projection's result arrays are the plain program's -/

@[expose] public section

set_option maxRecDepth 16384

noncomputable section

namespace Cert.Rope

open Cert.Kernel3Ideal Cert.Kernel3Ideal.Gen Idealize.ShloMosaic Idealize.SL.Sem
open Cert.Tail (tok mat vec row row_eq rms eR eK)

variable (m : (ℓ : Loc nD τ sig) → Buf (Elt Ideal) ℓ) (c : Dev nD)

/-- Where each window's block lies at a grid point. -/
theorem idx (t : Fin cfg0.N) : win0_0.index t = ![t.val, 0] ∧ win0_1.index t = ![0, 0] ∧ win0_2.index t = ![0, 0]
    ∧ win0_3.index t = ![t.val % 2, 0] ∧ win0_4.index t = ![t.val % 2, 0] ∧ win0_5.index t = ![t.val % 2, 0]
    ∧ win0_6.index t = ![t.val, 0] ∧ win0_7.index t = ![t.val, 0] ∧ win0_8.index t = ![t.val, 0] :=
  (by decide +kernel : ∀ t : Fin grid0.N, win0_0.index t = ![t.val, 0] ∧ win0_1.index t = ![0, 0] ∧ win0_2.index t = ![0, 0]
    ∧ win0_3.index t = ![t.val % 2, 0] ∧ win0_4.index t = ![t.val % 2, 0] ∧ win0_5.index t = ![t.val % 2, 0]
    ∧ win0_6.index t = ![t.val, 0] ∧ win0_7.index t = ![t.val, 0] ∧ win0_8.index t = ![t.val, 0]) t

theorem in0 (t : Fin cfg0.N) (r : Fin 1024) (b : Fin 8) (s : Fin 2048) (h : b.val * 2048 + s.val = t.val * 1024 + r.val) :
    row (iblk m c 0 t) r = tok (m ((c.tc : Thread nD τ).loc main_arg0)) b s := by
  refine row_eq fun k => ?_
  unfold tok
  obtain ⟨e0, e1, e2, e3, e4, e5, e6, e7, e8⟩ := idx t
  blk_ext! [iblk, V, e0]

theorem in1 (t : Fin cfg0.N) : row (iblk m c 1 t) 0 = vec (m ((c.tc : Thread nD τ).loc main_arg1)) := by
  refine row_eq fun k => ?_
  unfold vec
  obtain ⟨e0, e1, e2, e3, e4, e5, e6, e7, e8⟩ := idx t
  blk_simp [iblk]
  entry_read
  pointwise
  blk_ext [e1]

theorem in2 (t : Fin cfg0.N) : row (iblk m c 2 t) = mat (m ((c.tc : Thread nD τ).loc main_arg2)) := by
  refine funext fun r => row_eq fun k => ?_
  unfold mat
  obtain ⟨e0, e1, e2, e3, e4, e5, e6, e7, e8⟩ := idx t
  blk_ext [iblk, V, e2]

/-- A table's row at a grid point is the row of the token's position. -/
theorem in3 (t : Fin cfg0.N) (r : Fin 1024) (s : Fin 2048) (h : s.val = t.val % 2 * 1024 + r.val) (l : Fin 128) :
    row (iblk m c 3 t) r l = tabC (Cert.Reference3Ideal.Read.val_main_v35 (F := Ideal)) (ix2 s l) := by
  unfold row
  obtain ⟨e0, e1, e2, e3, e4, e5, e6, e7, e8⟩ := idx t
  blk_simp [iblk]
  rw [V25]
  refine congrArg _ (ix2_ext ?_ ?_)
  · refine Eq.trans ?_ h.symm; blk_simp [e3]
  · blk_simp [e3]

/-- A table's row at a grid point is the row of the token's position. -/
theorem in4 (t : Fin cfg0.N) (r : Fin 1024) (s : Fin 2048) (h : s.val = t.val % 2 * 1024 + r.val) (l : Fin 128) :
    row (iblk m c 4 t) r l = tabL (Cert.Reference3Ideal.Read.val_main_v37 (F := Ideal)) (ix2 s l) := by
  unfold row
  obtain ⟨e0, e1, e2, e3, e4, e5, e6, e7, e8⟩ := idx t
  blk_simp [iblk]
  rw [V26]
  refine congrArg _ (ix2_ext ?_ ?_)
  · refine Eq.trans ?_ h.symm; blk_simp [e4]
  · blk_simp [e4]

/-- A table's row at a grid point is the row of the token's position. -/
theorem in5 (t : Fin cfg0.N) (r : Fin 1024) (s : Fin 2048) (h : s.val = t.val % 2 * 1024 + r.val) (l : Fin 128) :
    row (iblk m c 5 t) r l = tabH (Cert.Reference3Ideal.Read.val_main_v37 (F := Ideal)) (ix2 s l) := by
  unfold row
  obtain ⟨e0, e1, e2, e3, e4, e5, e6, e7, e8⟩ := idx t
  blk_simp [iblk]
  rw [V27]
  refine congrArg _ (ix2_ext ?_ ?_)
  · refine Eq.trans ?_ h.symm; blk_simp [e5]
  · blk_simp [e5]

/-- The scratch holds the weight after every grid point. -/
theorem scratch (n : ℕ) (hn : n < cfg0.N) :
    row ((outsAt0 m c n hn).2.2.2) = mat (m ((c.tc : Thread nD τ).loc main_arg2)) := by
  induction n with
  | zero =>
    rw [outsAt0_A m c ⟨0, hn⟩ rfl]
    dsimp only
    funext k l
    refine Eq.trans (scratchA _ _ _ _ _ _ _ _ _ _ _ _ _ _ _ _ _ _ _ _ _ _ _ _ _ _ _ _ _ k l) ?_
    exact congrFun (congrFun (in2 m c ⟨0, hn⟩) k) l
  | succ n ih =>
    have h16 : n + 1 < 16 := hn
    rw [outsAt0_B m c ⟨n + 1, hn⟩ (by show ¬ (n + 1) % 16 = 0; omega)]
    exact ih _

/-- The projection of every row of a point's block. -/
def PB (t : Fin cfg0.N) : Fin 1024 → Fin 1536 → EReal := fun r =>
  proj eK (row (iblk m c 0 t) r) (vec (m ((c.tc : Thread nD τ).loc main_arg1))) (mat (m ((c.tc : Thread nD τ).loc main_arg2)))

theorem P0_A (t : Fin cfg0.N) : P0 (iblk m c 0 t) (iblk m c 1 t) (iblk m c 2 t) = PB m c t := by
  unfold P0 PB; rw [in1, in2]

theorem P0_B (t : Fin cfg0.N) (n : ℕ) (hn : n < cfg0.N) :
    P0 (iblk m c 0 t) (iblk m c 1 t) ((outsAt0 m c n hn).2.2.2) = PB m c t := by
  unfold P0 PB; rw [in1, scratch]

theorem out6 (t : Fin cfg0.N) (y : S1024x1024.Idx) : (outsAt0 m c t.val t.isLt).1 y = G6 (row (iblk m c 3 t)) (row (iblk m c 4 t)) (row (iblk m c 5 t)) (PB m c t) y := by
  by_cases h0 : t.val % 16 = 0
  · rw [outsAt0_A m c t h0]
    dsimp only
    refine Eq.trans (outA_6 _ _ _ _ _ _ _ _ _ _ _ _ _ _ _ _ _ _ _ _ _ _ _ _ _ _ _ _ _ y) ?_
    rw [P0_A]
  · rw [outsAt0_B m c t h0]
    dsimp only
    refine Eq.trans (outB_6 _ _ _ _ _ _ _ _ _ _ _ _ _ _ _ _ _ _ _ _ _ _ _ _ _ _ _ _ _ _ y) ?_
    rw [P0_B]

theorem out7 (t : Fin cfg0.N) (y : S1024x256.Idx) : (outsAt0 m c t.val t.isLt).2.1 y = G7 (row (iblk m c 3 t)) (row (iblk m c 4 t)) (row (iblk m c 5 t)) (PB m c t) y := by
  by_cases h0 : t.val % 16 = 0
  · rw [outsAt0_A m c t h0]
    dsimp only
    refine Eq.trans (outA_7 _ _ _ _ _ _ _ _ _ _ _ _ _ _ _ _ _ _ _ _ _ _ _ _ _ _ _ _ _ y) ?_
    rw [P0_A]
  · rw [outsAt0_B m c t h0]
    dsimp only
    refine Eq.trans (outB_7 _ _ _ _ _ _ _ _ _ _ _ _ _ _ _ _ _ _ _ _ _ _ _ _ _ _ _ _ _ _ y) ?_
    rw [P0_B]

theorem out8 (t : Fin cfg0.N) (y : S1024x256.Idx) : (outsAt0 m c t.val t.isLt).2.2.1 y = G8 (PB m c t) y := by
  by_cases h0 : t.val % 16 = 0
  · rw [outsAt0_A m c t h0]
    dsimp only
    refine Eq.trans (outA_8 _ _ _ _ _ _ _ _ _ _ _ _ _ _ _ _ _ _ _ _ _ _ _ _ _ _ _ _ _ y) ?_
    rw [P0_A]
  · rw [outsAt0_B m c t h0]
    dsimp only
    refine Eq.trans (outB_8 _ _ _ _ _ _ _ _ _ _ _ _ _ _ _ _ _ _ _ _ _ _ _ _ _ _ _ _ _ _ y) ?_
    rw [P0_B]

/-- The projection at the token that a block's row is. -/
theorem PB_row (t : Fin cfg0.N) (r : Fin 1024) (b : Fin 8) (s : Fin 2048) (h : b.val * 2048 + s.val = t.val * 1024 + r.val) :
    PB m c t r = tok (Cert.Reference3Ideal.Read.val_main_v13 (F := Ideal) (m ((c.tc : Thread nD τ).loc main_arg0))
      (m ((c.tc : Thread nD τ).loc main_arg1)) (m ((c.tc : Thread nD τ).loc main_arg2))) b s := by
  funext n
  rw [ref_proj, PB, in0 m c t r b s h]

/-- The turned columns at the token that a block's row is. -/
theorem turn_row (t : Fin cfg0.N) (r : Fin 1024) (b : Fin 8) (s : Fin 2048) (h : b.val * 2048 + s.val = t.val * 1024 + r.val)
    (n : Fin 1536) :
    colrot (row (iblk m c 3 t) r) (row (iblk m c 4 t) r) (row (iblk m c 5 t) r) (PB m c t r) n
      = turn (cosR s) (sinR s) (tok (Cert.Reference3Ideal.Read.val_main_v13 (F := Ideal) (m ((c.tc : Thread nD τ).loc main_arg0))
      (m ((c.tc : Thread nD τ).loc main_arg1)) (m ((c.tc : Thread nD τ).loc main_arg2))) b s) n := by
  have hs : s.val = t.val % 2 * 1024 + r.val := by omega
  rw [PB_row m c t r b s h]
  exact colrot_turn _ _ _ (cosR s) (sinR s) _ (fun l => (in3 m c t r s hs l).trans (tabC_at _ s l))
    (fun l => (in4 m c t r s hs l).trans (tabL_at _ s l)) (fun l => (in5 m c t r s hs l).trans (tabH_at _ s l)) n

end Cert.Rope

end
-- ==== Proof.Rope.Claim.lean ====
module

public import proofs.«01_k».proof.Defs
public import proofs.«01_k».proof.Proof.Rope.Value
public import proofs.«01_k».proof.Proof.Gen.Reference3Ideal.Run

/-! # The projection's claim -/

@[expose] public section

set_option maxRecDepth 16384

noncomputable section

namespace Cert.Rope

open Cert.Kernel3Ideal Cert.Kernel3Ideal.Gen Idealize.ShloMosaic Idealize.SL.Sem
open Cert.Reference3Ideal.Read
open Cert.Tail (tok)

/-! ## The plain program's results, one token at a time -/

section

variable (x0 : (⟨S8x2048x1024, .f32⟩ : BufTy).Contents (Elt Ideal)) (x1 : (⟨S1024, .f32⟩ : BufTy).Contents (Elt Ideal))
  (x2 : (⟨S1024x1536, .f32⟩ : BufTy).Contents (Elt Ideal)) (b : Fin 8) (s : Fin 2048)

theorem queries_at (i : S16384x1024.Idx) (n : Fin 1024) (h0 : (i 0).val = b.val * 2048 + s.val) (h1 : (i 1).val = n.val) :
    val_main_v92 (F := Ideal) x0 x1 x2 i
      = turn (cosR s) (sinR s) (tok (val_main_v13 (F := Ideal) x0 x1 x2) b s) ⟨n, by omega⟩ := by
  rw [val_main_v92_apply, ← ref_q]
  refine congrArg _ ?_
  funext a
  fin_cases a <;> refine Fin.ext ?_
  · show ((i 0).val * 1024 + (i 1).val) / 2097152 = b.val
    rw [h0, h1]; omega
  · show ((i 0).val * 1024 + (i 1).val) / 1024 % 2048 = s.val
    rw [h0, h1]; omega
  · show ((i 0).val * 1024 + (i 1).val) / 64 % 16 = n.val / 64
    rw [h0, h1]; omega
  · show ((i 0).val * 1024 + (i 1).val) % 64 = n.val % 64
    rw [h0, h1]; omega

theorem keys_at (i : S16384x256.Idx) (n : Fin 256) (h0 : (i 0).val = b.val * 2048 + s.val) (h1 : (i 1).val = n.val) :
    val_main_v94 (F := Ideal) x0 x1 x2 i
      = turn (cosR s) (sinR s) (tok (val_main_v13 (F := Ideal) x0 x1 x2) b s) ⟨1024 + n, by omega⟩ := by
  rw [val_main_v94_apply, val_main_v93_apply, ← ref_k]
  refine congrArg (val_main_v91 (F := Ideal) x0 x1 x2) ?_
  funext a
  fin_cases a <;> refine Fin.ext ?_
  · show ((i 0).val * 256 + (i 1).val) / 524288 = b.val
    rw [h0, h1]; omega
  · show ((i 0).val * 256 + (i 1).val) / 256 % 2048 = s.val
    rw [h0, h1]; omega
  · show ((i 0).val * 256 + (i 1).val) / 64 % 4 = n.val / 64
    rw [h0, h1]; omega
  · show ((i 0).val * 256 + (i 1).val) % 64 = n.val % 64
    rw [h0, h1]; omega

theorem values_at (i : S16384x256.Idx) (n : Fin 256) (h0 : (i 0).val = b.val * 2048 + s.val) (h1 : (i 1).val = n.val) :
    val_main_v96 (F := Ideal) x0 x1 x2 i
      = tok (val_main_v13 (F := Ideal) x0 x1 x2) b s ⟨1280 + n, by omega⟩ := by
  rw [val_main_v96_apply, val_main_v95_apply, val_main_v16_apply]
  refine congrArg (val_main_v13 (F := Ideal) x0 x1 x2) ?_
  funext a
  fin_cases a <;> refine Fin.ext ?_
  · show ((i 0).val * 256 + (i 1).val) / 524288 = b.val
    rw [h0, h1]; omega
  · show ((i 0).val * 256 + (i 1).val) / 256 % 2048 = s.val
    rw [h0, h1]; omega
  · show 1280 + ((i 0).val * 256 + (i 1).val) % 256 = 1280 + n.val
    rw [h0, h1]; omega

end

/-! ## The arrays -/

variable (m : (ℓ : Loc nD τ sig) → Buf (Elt Ideal) ℓ) (c : Dev nD)

/-- The plain program's three results of the kernel's arguments. -/
def Q : Buf (Elt Ideal) ((c.tc : Thread nD τ).loc main_v29_0) :=
  val_main_v92 (F := Ideal) (m ((c.tc : Thread nD τ).loc main_arg0)) (m ((c.tc : Thread nD τ).loc main_arg1)) (m ((c.tc : Thread nD τ).loc main_arg2))
def K : Buf (Elt Ideal) ((c.tc : Thread nD τ).loc main_v29_1) :=
  val_main_v94 (F := Ideal) (m ((c.tc : Thread nD τ).loc main_arg0)) (m ((c.tc : Thread nD τ).loc main_arg1)) (m ((c.tc : Thread nD τ).loc main_arg2))
def U : Buf (Elt Ideal) ((c.tc : Thread nD τ).loc main_v29_2) :=
  val_main_v96 (F := Ideal) (m ((c.tc : Thread nD τ).loc main_arg0)) (m ((c.tc : Thread nD τ).loc main_arg1)) (m ((c.tc : Thread nD τ).loc main_arg2))

theorem arr6 : (dats m 0 c).arrAt 6 cfg0.N = Q m c := by
  refine (dats m 0 c).arrAt_eq_of_covers 6 _ (by decide +kernel) fun t hf y => ?_
  blk_simp
  rw [after0_6, out6]
  unfold Q
  obtain ⟨e0, e1, e2, e3, e4, e5, e6, e7, e8⟩ := idx t
  have ht : t.val < 16 := t.isLt
  have hy : (y 0).val < 1024 := (y 0).isLt
  have hj : (y 1).val < 1024 := (y 1).isLt
  have p0 : ((((cfg0.win 6).blk t).view.emb y) 0 : ℕ) = t.val * 1024 + (y 0).val := by blk_simp [e6]
  have p1 : ((((cfg0.win 6).blk t).view.emb y) 1 : ℕ) = (y 1).val := by blk_simp [e6]
  refine Eq.trans ?_ (queries_at _ _ _ ⟨(t.val * 1024 + (y 0).val) / 2048, by omega⟩ ⟨(t.val * 1024 + (y 0).val) % 2048, by omega⟩
    _ ⟨(y 1).val, hj⟩ (p0.trans (by dsimp only; omega)) p1).symm
  exact turn_row m c t ⟨(y 0).val, hy⟩ _ _ (by dsimp only; omega) _

theorem arr7 : (dats m 0 c).arrAt 7 cfg0.N = K m c := by
  refine (dats m 0 c).arrAt_eq_of_covers 7 _ (by decide +kernel) fun t hf y => ?_
  blk_simp
  rw [after0_7, out7]
  unfold K
  obtain ⟨e0, e1, e2, e3, e4, e5, e6, e7, e8⟩ := idx t
  have ht : t.val < 16 := t.isLt
  have hy : (y 0).val < 1024 := (y 0).isLt
  have hj : (y 1).val < 256 := (y 1).isLt
  have p0 : ((((cfg0.win 7).blk t).view.emb y) 0 : ℕ) = t.val * 1024 + (y 0).val := by blk_simp [e7]
  have p1 : ((((cfg0.win 7).blk t).view.emb y) 1 : ℕ) = (y 1).val := by blk_simp [e7]
  refine Eq.trans ?_ (keys_at _ _ _ ⟨(t.val * 1024 + (y 0).val) / 2048, by omega⟩ ⟨(t.val * 1024 + (y 0).val) % 2048, by omega⟩
    _ ⟨(y 1).val, hj⟩ (p0.trans (by dsimp only; omega)) p1).symm
  exact turn_row m c t ⟨(y 0).val, hy⟩ _ _ (by dsimp only; omega) _

theorem arr8 : (dats m 0 c).arrAt 8 cfg0.N = U m c := by
  refine (dats m 0 c).arrAt_eq_of_covers 8 _ (by decide +kernel) fun t hf y => ?_
  blk_simp
  rw [after0_8, out8]
  unfold U
  obtain ⟨e0, e1, e2, e3, e4, e5, e6, e7, e8⟩ := idx t
  have ht : t.val < 16 := t.isLt
  have hy : (y 0).val < 1024 := (y 0).isLt
  have hj : (y 1).val < 256 := (y 1).isLt
  have p0 : ((((cfg0.win 8).blk t).view.emb y) 0 : ℕ) = t.val * 1024 + (y 0).val := by blk_simp [e8]
  have p1 : ((((cfg0.win 8).blk t).view.emb y) 1 : ℕ) = (y 1).val := by blk_simp [e8]
  refine Eq.trans ?_ (values_at _ _ _ ⟨(t.val * 1024 + (y 0).val) / 2048, by omega⟩ ⟨(t.val * 1024 + (y 0).val) % 2048, by omega⟩
    _ ⟨(y 1).val, hj⟩ (p0.trans (by dsimp only; omega)) p1).symm
  exact congrFun (PB_row m c t ⟨(y 0).val, hy⟩ _ _ (by dsimp only; omega)) _

/-- The kernel and the plain program end with the same three result arrays. -/
theorem equal : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    · rw [arr6, val_main_v92_eq]
      obtain ⟨h0, h1, h2⟩ := hagree c
      rw [h0, h1, h2]
      rfl
    · rw [arr7, val_main_v94_eq]
      obtain ⟨h0, h1, h2⟩ := hagree c
      rw [h0, h1, h2]
      rfl
    · rw [arr8, val_main_v96_eq]
      rfl

end Cert.Rope

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Tail.Claim
public import proofs.«01_k».proof.Proof.Attn.Claim
public import proofs.«01_k».proof.Proof.Rope.Claim
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Attn.scores_facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2.2.2.2, sem_eq_zero_of_no_sems (sig := Cert.ReferenceIdeal.sig) (by decide) r.2⟩) (Cert.ReferenceIdeal.Value.run m ρ),
  fun m ρ _ => (θ_run Cert.ReferenceIdeal.defs _ _).mono
    (fun r h => ⟨fun c => (h c).2.2.2.2, sem_eq_zero_of_no_sems (sig := Cert.ReferenceIdeal.sig) (by decide) r.2⟩) (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2, sem_eq_zero_of_no_sems (sig := Cert.Reference2Ideal.sig) (by decide) r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2.2.2, sem_eq_zero_of_no_sems (sig := Cert.Reference3Ideal.sig) (by decide) r.2⟩) (Cert.Reference3Ideal.Value.run m ρ),
  ⟨IdealRules.named_const.statement Cert.KernelIdeal.κ "mask" .f32 0xF149F2CA#32 ⊥ rfl,
    IdealRules.named_const.statement Cert.KernelIdeal.κ "qscale" .f32 0x3E38AA3B#32 (((Real.log 256)⁻¹ : ℝ) : EReal) rfl,
    IdealRules.named_const.statement Cert.KernelIdeal.κ "log2e" .f32 0x3FB8AA3B#32 (((Real.log 2)⁻¹ : ℝ) : EReal) rfl⟩,
  Cert.Attn.equal,
  trivial,
  Cert.Tail.equal,
  trivial,
  Cert.Rope.equal⟩

end Cert.Proof

end
